-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "step" .f32 0x3D010204#32 ((4 / 127 : ℝ) : EReal)
  ∧ IdealRules.named_const.Statement Cert.KernelIdeal.κ "scaled_step" .f32 0x3B3671D7#32 (((Real.sqrt 128)⁻¹ * (4 / 127) : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![8192, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) (main_arg2 : FVec F S1024x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Pre_finite_scores_ReferenceIdeal.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S1024x128 : Shape := ⟨2, ![1024, 128]⟩
abbrev S8x2x1024x128 : Shape := ⟨4, ![8, 2, 1024, 128]⟩
abbrev S7 : Shape := ⟨1, ![7]⟩
abbrev S1x1x1024x128 : Shape := ⟨4, ![1, 1, 1024, 128]⟩
abbrev S_ : Shape := ⟨0, ![]⟩
abbrev S1024x1 : Shape := ⟨2, ![1024, 1]⟩
abbrev S1 : Shape := ⟨1, ![1]⟩
abbrev S1x2x1024x128 : Shape := ⟨4, ![1, 2, 1024, 128]⟩
abbrev S2x1024x128 : Shape := ⟨3, ![2, 1024, 128]⟩
abbrev S1024x1024 : Shape := ⟨2, ![1024, 1024]⟩
abbrev S1024 : Shape := ⟨1, ![1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8x2x1024x128, .i8⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v15 : Index := Scalar.indexCast v2
  let c0_5 : Index := 0#32
  let c0_6 : Index := 0#32
  let c0_7 : Index := 0#32
  ![v15.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : Index := Scalar.indexCast v2
  let c1 : Index := 1#32
  let c0_11 : Index := 0#32
  let c0_12 : Index := 0#32
  ![v27.toNat, 1, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v32 : BitVec 32 := Scalar.addi v2 c1_i32_13
  let c8_i32_14 : BitVec 32 := 8#32
  let v33 : BitVec 32 := Scalar.remsi v32 c8_i32_14
  let c1_i32_16 : BitVec 32 := 1#32
  let v34 : BitVec 32 := Scalar.muli v33 c1_i32_16
  let v35 : BitVec 32 := Scalar.addi c0_i32 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v36 : BitVec 32 := Scalar.addi v2 c2_i32
  let c8_i32_17 : BitVec 32 := 8#32
  let v37 : BitVec 32 := Scalar.remsi v36 c8_i32_17
  let c1_i32_19 : BitVec 32 := 1#32
  let v38 : BitVec 32 := Scalar.muli v37 c1_i32_19
  let v39 : BitVec 32 := Scalar.addi c0_i32_20 v38
  v39.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v40 : BitVec 32 := Scalar.addi v2 c3_i32
  let c8_i32_21 : BitVec 32 := 8#32
  let v41 : BitVec 32 := Scalar.remsi v40 c8_i32_21
  let c1_i32_23 : BitVec 32 := 1#32
  let v42 : BitVec 32 := Scalar.muli v41 c1_i32_23
  let v43 : BitVec 32 := Scalar.addi c0_i32_24 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v44 : BitVec 32 := Scalar.addi v2 c4_i32
  let c8_i32_25 : BitVec 32 := 8#32
  let v45 : BitVec 32 := Scalar.remsi v44 c8_i32_25
  let c1_i32_27 : BitVec 32 := 1#32
  let v46 : BitVec 32 := Scalar.muli v45 c1_i32_27
  let v47 : BitVec 32 := Scalar.addi c0_i32_28 v46
  v47.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v48 : BitVec 32 := Scalar.addi v2 c5_i32
  let c8_i32_29 : BitVec 32 := 8#32
  let v49 : BitVec 32 := Scalar.remsi v48 c8_i32_29
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v52 : BitVec 32 := Scalar.addi v2 c6_i32
  let c8_i32_33 : BitVec 32 := 8#32
  let v53 : BitVec 32 := Scalar.remsi v52 c8_i32_33
  let c1_i32_35 : BitVec 32 := 1#32
  let v54 : BitVec 32 := Scalar.muli v53 c1_i32_35
  let v55 : BitVec 32 := Scalar.addi c0_i32_36 v54
  v55.toNat
def k0_dev7 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v56 : BitVec 32 := Scalar.addi v2 c7_i32
  let c8_i32_37 : BitVec 32 := 8#32
  let v57 : BitVec 32 := Scalar.remsi v56 c8_i32_37
  let c1_i32_39 : BitVec 32 := 1#32
  let v58 : BitVec 32 := Scalar.muli v57 c1_i32_39
  let v59 : BitVec 32 := Scalar.addi c0_i32_40 v58
  v59.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  let c0_i32_57 : BitVec 32 := 0#32
  ![v2.toNat, 0, 0, 0]
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_47 : BitVec 32 := 6#32
  let v67 : BitVec 32 := Scalar.addi v2 c6_i32_47
  let c8_i32_48 : BitVec 32 := 8#32
  let v68 : BitVec 32 := Scalar.remsi v67 c8_i32_48
  let c1_i32_53 : BitVec 32 := 1#32
  let v71 : BitVec 32 := Scalar.muli v68 c1_i32_53
  let v72 : BitVec 32 := Scalar.addi c0_i32_54 v71
  v72.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_49 : BitVec 32 := 2#32
  let v69 : BitVec 32 := Scalar.addi v2 c2_i32_49
  let c8_i32_50 : BitVec 32 := 8#32
  let v70 : BitVec 32 := Scalar.remsi v69 c8_i32_50
  let c1_i32_63 : BitVec 32 := 1#32
  let v81 : BitVec 32 := Scalar.muli v70 c1_i32_63
  let v82 : BitVec 32 := Scalar.addi c0_i32_64 v81
  v82.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v111 : BitVec 32 := Scalar.addi v2 c3_i32_85
  let c8_i32_86 : BitVec 32 := 8#32
  let v112 : BitVec 32 := Scalar.remsi v111 c8_i32_86
  let c1_i32_89 : BitVec 32 := 1#32
  let v113 : BitVec 32 := Scalar.muli v112 c1_i32_89
  let v114 : BitVec 32 := Scalar.addi c0_i32_90 v113
  v114.toNat
def k0_off4 (d0 : Dev nD) (c6_i32_107 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.subi v2 c6_i32_107
  let c8_i32_108 : BitVec 32 := 8#32
  let v132 : BitVec 32 := Scalar.addi v131 c8_i32_108
  let c8_i32_109 : BitVec 32 := 8#32
  let v133 : BitVec 32 := Scalar.remsi v132 c8_i32_109
  let v134 : Index := Scalar.indexCast v133
  let c0_110 : Index := 0#32
  let c0_111 : Index := 0#32
  let c0_112 : Index := 0#32
  ![v134.toNat, 0, 0, 0]
def k0_off5 (d0 : Dev nD) (c6_i32_107 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.subi v2 c6_i32_107
  let c8_i32_108 : BitVec 32 := 8#32
  let v132 : BitVec 32 := Scalar.addi v131 c8_i32_108
  let c8_i32_109 : BitVec 32 := 8#32
  let v133 : BitVec 32 := Scalar.remsi v132 c8_i32_109
  let v138 : Index := Scalar.indexCast v133
  let c1_113 : Index := 1#32
  let c0_114 : Index := 0#32
  let c0_115 : Index := 0#32
  ![v138.toNat, 1, 0, 0]
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_128 : BitVec 32 := 5#32
  let v156 : BitVec 32 := Scalar.addi v2 c5_i32_128
  let c8_i32_129 : BitVec 32 := 8#32
  let v157 : BitVec 32 := Scalar.remsi v156 c8_i32_129
  let c1_i32_132 : BitVec 32 := 1#32
  let v158 : BitVec 32 := Scalar.muli v157 c1_i32_132
  let v159 : BitVec 32 := Scalar.addi c0_i32_133 v158
  v159.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_171 : BitVec 32 := 7#32
  let v201 : BitVec 32 := Scalar.addi v2 c7_i32_171
  let c8_i32_172 : BitVec 32 := 8#32
  let v202 : BitVec 32 := Scalar.remsi v201 c8_i32_172
  let c1_i32_175 : BitVec 32 := 1#32
  let v203 : BitVec 32 := Scalar.muli v202 c1_i32_175
  let v204 : BitVec 32 := Scalar.addi c0_i32_176 v203
  v204.toNat
def k0_dev13 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_214 : BitVec 32 := 1#32
  let v246 : BitVec 32 := Scalar.addi v2 c1_i32_214
  let c8_i32_215 : BitVec 32 := 8#32
  let v247 : BitVec 32 := Scalar.remsi v246 c8_i32_215
  let c1_i32_218 : BitVec 32 := 1#32
  let v248 : BitVec 32 := Scalar.muli v247 c1_i32_218
  let v249 : BitVec 32 := Scalar.addi c0_i32_219 v248
  v249.toNat
def k0_dev14 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v291 : BitVec 32 := Scalar.addi v2 c4_i32_257
  let c8_i32_258 : BitVec 32 := 8#32
  let v292 : BitVec 32 := Scalar.remsi v291 c8_i32_258
  let c1_i32_261 : BitVec 32 := 1#32
  let v293 : BitVec 32 := Scalar.muli v292 c1_i32_261
  let v294 : BitVec 32 := Scalar.addi c0_i32_262 v293
  v294.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scaled_step" => some (((Real.sqrt 128)⁻¹ * (4 / 127) : ℝ) : EReal)
  | "step" => some ((4 / 127 : ℝ) : EReal)
  | _ => none
-- ==== ReferenceIdeal.lean ====
abbrev S8192x128 : Shape := ⟨2, ![8192, 128]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S8192 : Shape := ⟨1, ![8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x1, .i32⟩
  | .hbm, ⟨7, _⟩ => ⟨S_, .i32⟩
  | .hbm, ⟨8, _⟩ => ⟨S8192x1, .i32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S128x8192, .f32⟩
  | .hbm, ⟨15, _⟩ => ⟨S8192x8192, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S128x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x128, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x128, .f32⟩
  | .hbm, ⟨64, _⟩ => ⟨S8192x128, .f32⟩
  | .hbm, ⟨65, _⟩ => ⟨S_, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call4_v0 : Ref sig .tc := ⟨.hbm, 54, rfl⟩
abbrev main_call4_v1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_cst_9 : Ref sig .tc := ⟨.hbm, 61, rfl⟩
abbrev main_call6_v0 : Ref sig .tc := ⟨.hbm, 62, rfl⟩
abbrev main_call6_v1 : Ref sig .tc := ⟨.hbm, 63, rfl⟩
abbrev main_call6_v2 : Ref sig .tc := ⟨.hbm, 64, rfl⟩
abbrev main_call6_v3 : Ref sig .tc := ⟨.hbm, 65, rfl⟩
abbrev main_call6_v4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]
-- ==== Proof.Sched.lean ====
/-
The exchange protocol of the kernel.

Eight devices. Each keeps a buffer of eight slots, one per device, and fills its own slot before the barrier. Numbers
`j = 0, …, 6` stand for the seven distances `1, …, 7`: device `c` sends its slot to `tgt c j`, the device `j + 1` places
after it, and receives the slot of `src c j`, the device `j + 1` places before it.

Semaphores of device `c`, who credits them, how much, and what the credit hands over:

* the barrier semaphore: one unit from each of the seven other devices. The unit of `src c j` hands over the slot
  numbered `c` of `src c j`, with whatever it holds: the room `c` needs for the copy it sends there.
* the send semaphore `j`: the size of a slot, from the copy `c` starts to `tgt c j`. It hands back the share of `c`'s own
  slot the copy read. At most two copies are in flight, so the own slot is cut in two half shares; the copies take them in
  turn.
* the receive semaphore `j`: the size of a slot, from the copy `src c j` starts. It hands over the slot numbered `src c j`
  of `c`, holding the quantised keys and values of `src c j`.

The order in which a device waits: the barrier, then the receive semaphores in the order the copies are started
(distances 6, 2, 3, 5, 7, 1, 4). A send semaphore is credited by a copy its own device has started.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resources -/

/-- The exchange's own ghost state: rounds whose duties are numbered by the seven distances. -/
abbrev UB : Type := URounds (GSem nD τ sig) (Fin 7)
/-- The pipeline's ghost state beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The devices a device talks to -/

/-- The device `j + 1` places after `c`. -/
def tgt (c : Dev nD) (j : Fin 7) : Dev nD := ⟨(c.val + (j.val + 1)) % 8, Nat.mod_lt _ (by decide)⟩
/-- The device `j + 1` places before `c`. -/
def src (c : Dev nD) (j : Fin 7) : Dev nD := ⟨((c.val + 7) - j.val) % 8, Nat.mod_lt _ (by decide)⟩
/-- The distance going the other way round. -/
def opp (j : Fin 7) : Fin 7 := ⟨6 - j.val, by omega⟩

theorem src_tgt : ∀ (c : Dev nD) (j : Fin 7), src (tgt c j) j = c := by decide
theorem tgt_src : ∀ (c : Dev nD) (j : Fin 7), tgt (src c j) j = c := by decide
theorem src_opp : ∀ (c : Dev nD) (j : Fin 7), src c (opp j) = tgt c j := by decide
theorem tgt_opp : ∀ (c : Dev nD) (j : Fin 7), tgt c (opp j) = src c j := by decide
theorem opp_opp : ∀ j : Fin 7, opp (opp j) = j := by decide
theorem src_ne : ∀ (c : Dev nD) (j : Fin 7), src c j ≠ c := by decide
theorem src_inj : ∀ (c : Dev nD) (i j : Fin 7), src c i = src c j → i = j := by decide

/-- A distance permutes the devices. -/
def shift (j : Fin 7) : Dev nD ≃ Dev nD := ⟨fun c => tgt c j, fun c => src c j, fun c => src_tgt c j, fun c => tgt_src c j⟩

/-! ## Semaphores -/

/-- The runtime's barrier semaphore. -/
abbrev barS : Sem sig := (SemArray.scalar (sig.barrier 0 rfl) : Sems sig S_).sem
/-- The send semaphore of distance `j + 1`. -/
def sndSem (j : Fin 7) : DmaSem sig := ⟨j.val + 4, by have := j.isLt; show j.val + 4 < 18; omega⟩
/-- The receive semaphore of distance `j + 1`. -/
def rcvSem (j : Fin 7) : DmaSem sig := ⟨j.val + 11, by have := j.isLt; show j.val + 11 < 18; omega⟩

/-- The kernel's own semaphores: the send semaphores, then the receive semaphores. -/
abbrev OwnIx : Type := Fin 7 ⊕ Fin 7
/-- All semaphores of the exchange: the barrier, then the kernel's own. -/
abbrev CellIx : Type := Unit ⊕ OwnIx

def osem : OwnIx → SemLoc sig
  | .inl j => .dma (sndSem j)
  | .inr j => .dma (rcvSem j)
def csem : CellIx → SemLoc sig
  | .inl _ => .reg barS
  | .inr k => osem k

/-- Which semaphore of the exchange a location is, if any. -/
def kind : SemLoc sig → Option CellIx
  | .reg s => if s = barS then some (.inl ()) else none
  | .dma s => if h : 4 ≤ s.val ∧ s.val < 11 then some (.inr (.inl ⟨s.val - 4, by omega⟩))
      else if h' : 11 ≤ s.val ∧ s.val < 18 then some (.inr (.inr ⟨s.val - 11, by omega⟩)) else none

theorem kind_csem : ∀ k : CellIx, kind (csem k) = some k := by decide
theorem csem_inj : Function.Injective csem := fun a b h => Option.some.inj (by rw [← kind_csem a, ← kind_csem b, h])

/-- The cell of a semaphore of the exchange on a device. -/
def kcell (ck : Dev nD × CellIx) : GSem nD τ sig := ((ck.1 : Thread nD τ), csem ck.2)
abbrev barCell (c : Dev nD) : GSem nD τ sig := ((c : Thread nD τ), .reg barS)
abbrev sndCell (c : Dev nD) (j : Fin 7) : GSem nD τ sig := ((c : Thread nD τ), .dma (sndSem j))
abbrev rcvCell (c : Dev nD) (j : Fin 7) : GSem nD τ sig := ((c : Thread nD τ), .dma (rcvSem j))

theorem kcell_injective : Function.Injective kcell := fun a b h => by
  obtain ⟨c, k⟩ := a
  obtain ⟨c', k'⟩ := b
  have h1 : c = c' := congrArg (fun g : GSem nD τ sig => g.1.1) h
  have h2 : csem k = csem k' := congrArg Prod.snd h
  rw [h1, csem_inj h2]

/-! ## The slots -/

/-- The slot numbered `p`. -/
abbrev slotM (p : Dev nD) : Memref sig .tc .vmem S2x1024x128 .i8 :=
  ((Memref.whole cc0_scratch0).slice (Rect.unit (s := S8x2x1024x128) (k0_off3 p) S1x2x1024x128.size (k0_off3_inb p)) (fun _ => rfl)).squeeze S2x1024x128 squeezes_S1x2x1024x128_S2x1024x128

/-- The credit of one slot. -/
def N : ℕ := (slotM 0).view.dmaCredit
theorem N_eq (p : Dev nD) : (slotM p).view.dmaCredit = N := rfl
theorem N_pos : 0 < N := View.dmaCredit_pos _ (by decide)

/-- The elements of slot `p` are those whose first index is `p`. -/
theorem mem_slot (p : Dev nD) (i : S8x2x1024x128.Idx) : i ∈ (slotM p).view.set ↔ (i 0).val = p.val := by
  have h : (slotM p).view.set = (Rect.unit (s := S8x2x1024x128) (k0_off3 p) S1x2x1024x128.size (k0_off3_inb p)).set := by
    show (((View.whole cc0_scratch0).slice (Rect.unit (s := S8x2x1024x128) (k0_off3 p) S1x2x1024x128.size (k0_off3_inb p))).reshape _ _).set = _
    rw [View.set_reshape, View.set_slice_whole]
  rw [h, LoadRect.mem_set]
  constructor
  · intro H
    obtain ⟨j, hj, e⟩ := H 0
    have hj1 : j < 1 := hj
    have e0 : (i 0).val = k0_off3 p 0 + 1 * j := e
    rw [k0_off3_eq] at e0
    have e1 : (i 0).val = p.val + 1 * j := e0
    omega
  · intro H a
    refine ⟨(i a).val - k0_off3 p a, ?_, ?_⟩
    · show (i a).val - k0_off3 p a < S1x2x1024x128.size a
      have hi := (i a).isLt
      rw [k0_off3_eq]
      fin_cases a
      · show (i 0).val - p.val < 1; omega
      · exact hi
      · exact hi
      · exact hi
    · show (i a).val = k0_off3 p a + 1 * ((i a).val - k0_off3 p a)
      rw [k0_off3_eq]
      fin_cases a
      · show (i 0).val = p.val + 1 * ((i 0).val - p.val); omega
      · show (i 1).val = 0 + 1 * ((i 1).val - 0); omega
      · show (i 2).val = 0 + 1 * ((i 2).val - 0); omega
      · show (i 3).val = 0 + 1 * ((i 3).val - 0); omega

/-- The elements of slot `p`, as elements of the buffer of device `c`. -/
abbrev slotSet (c p : Dev nD) : Finset (Idx ((c : Thread nD τ).loc cc0_scratch0)) := (slotM p).view.set

theorem slot_disjoint (c p p' : Dev nD) (h : p ≠ p') : Disjoint (slotSet c p) (slotSet c p') :=
  Finset.disjoint_left.mpr fun i hi hi' => h (Fin.ext (((mem_slot p i).mp hi).symm.trans ((mem_slot p' i).mp hi')))

theorem slot_cover (c : Dev nD) : (Finset.univ : Finset (Dev nD)).biUnion (slotSet c) = Finset.univ := by
  ext i
  simp only [Finset.mem_biUnion, Finset.mem_univ, true_and, iff_true]
  exact ⟨⟨((i : S8x2x1024x128.Idx) 0).val, ((i : S8x2x1024x128.Idx) 0).isLt⟩, (mem_slot _ i).mpr rfl⟩

/-- Slot `p` of device `c`, held at a share with contents `f`. -/
def slotPts (c p : Dev nD) (q : PosShare TreeShare) (f : Buf (Elt F) ((c : Thread nD τ).loc cc0_scratch0)) : sProp 𝕄 :=
  ((c : Thread nD τ).loc cc0_scratch0) ↦[slotSet c p]{q} f

omit [FloatOps F] [Named F] in
instance slotPts_storable (c p : Dev nD) (q : PosShare TreeShare) (f) : BI.Storable (upEmb : UEmb _ 𝕄) (slotPts (F := F) c p q f) := by
  unfold slotPts; infer_instance

/-! ## Contents -/

/-- What device `c`'s three argument windows hold: its queries, keys and values. -/
def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- The index of one plane of one slot under an index of the whole buffer. -/
def plane (i : S8x2x1024x128.Idx) : S1x1x1024x128.Idx := fun a =>
  ⟨(i a).val % S1x1x1024x128.size a, Nat.mod_lt _ (by fin_cases a <;> decide)⟩

/-- The exchanged buffer: slot `p` holds the quantised keys (first plane) and values (second plane) of device `p`. The
    same on every device. -/
def KV : (cc0_scratch0 : Ref sig .tc).ty.Contents (Elt F) := fun (i : S8x2x1024x128.Idx) =>
  if (i 1).val = 0 then k0_pay4 (kstg m ρ (i 0)) (plane i) else k0_pay5 (vstg m ρ (i 0)) (plane i)

/-! ## The schedule -/

/-- Which half share of its own slot a device lends to the copy of distance `j + 1`: the copies in flight alternate. -/
def half (j : Fin 7) : PosShare TreeShare :=
  match j with
  | 5 | 2 | 6 | 3 => fullShare.left
  | 1 | 4 | 0 => fullShare.right

def dutiesOf : Option CellIx → Finset (Fin 7)
  | some (.inl _) => Finset.univ
  | some (.inr _) => {0}
  | none => ∅
def amountOf : Option CellIx → ℕ
  | some (.inl _) => 1
  | _ => N
def payOf (c : Dev nD) (d : Fin 7) : Option CellIx → sProp 𝕄
  | some (.inl _) => iprop(∃ f, slotPts (src c d) c fullShare f)
  | some (.inr (.inl j)) => slotPts c c (half j) (KV m ρ)
  | some (.inr (.inr j)) => slotPts c (src c j) fullShare (KV m ρ)
  | none => iprop(emp)

instance payOf_storable (c : Dev nD) (d : Fin 7) (k : Option CellIx) : BI.Storable (upEmb : UEmb _ 𝕄) (payOf m ρ c d k) := by
  rcases k with _ | (_ | (_ | _)) <;> (unfold payOf; infer_instance)

/-- One round: the barrier's seven units, one credit on every send and receive semaphore. -/
def Rd : Rounds.Schedule (GSem nD τ sig) (Fin 7) 𝕄 where
  duties g r := if r = 0 ∧ g.1.2 = .tc then dutiesOf (kind g.2) else ∅
  unitless _ := False
  amount g _ _ := amountOf (kind g.2)
  payload g _ d := payOf m ρ g.1.1 d (kind g.2)
  amount_pos g _ _ _ := by
    rcases kind g.2 with _ | (_ | _)
    · exact N_pos
    · exact Nat.one_pos
    · exact N_pos

instance Rd_payload_storable (g : GSem nD τ sig) (r : ℕ) (d : Fin 7) : BI.Storable (upEmb : UEmb _ 𝕄) ((Rd (F := F) m ρ).payload g r d) :=
  payOf_storable m ρ g.1.1 d (kind g.2)

theorem kind_bar : kind (.reg barS) = some (.inl ()) := kind_csem (.inl ())
theorem kind_snd (j : Fin 7) : kind (.dma (sndSem j)) = some (.inr (.inl j)) := kind_csem (.inr (.inl j))
theorem kind_rcv (j : Fin 7) : kind (.dma (rcvSem j)) = some (.inr (.inr j)) := kind_csem (.inr (.inr j))

section Sched
variable (c : Dev nD) (j : Fin 7)

theorem duties_bar : (Rd (F := F) m ρ).duties (barCell c) 0 = Finset.univ := by
  show (if 0 = 0 ∧ (Proc.tc : Proc τ) = .tc then dutiesOf (kind (.reg barS)) else ∅) = _
  rw [kind_bar]; exact if_pos ⟨rfl, rfl⟩
theorem duties_snd : (Rd (F := F) m ρ).duties (sndCell c j) 0 = {0} := by
  show (if 0 = 0 ∧ (Proc.tc : Proc τ) = .tc then dutiesOf (kind (.dma (sndSem j))) else ∅) = _
  rw [kind_snd]; exact if_pos ⟨rfl, rfl⟩
theorem duties_rcv : (Rd (F := F) m ρ).duties (rcvCell c j) 0 = {0} := by
  show (if 0 = 0 ∧ (Proc.tc : Proc τ) = .tc then dutiesOf (kind (.dma (rcvSem j))) else ∅) = _
  rw [kind_rcv]; exact if_pos ⟨rfl, rfl⟩
theorem duties_later (g : GSem nD τ sig) : ∀ r, 1 ≤ r → (Rd (F := F) m ρ).duties g r = ∅ :=
  fun r hr => if_neg fun h => by omega

theorem amount_bar (d : Fin 7) : (Rd (F := F) m ρ).amount (barCell c) 0 d = 1 := by
  show amountOf (kind (.reg barS)) = 1
  rw [kind_bar]; rfl
theorem amount_snd (d : Fin 7) : (Rd (F := F) m ρ).amount (sndCell c j) 0 d = N := by
  show amountOf (kind (.dma (sndSem j))) = N
  rw [kind_snd]; rfl
theorem amount_rcv (d : Fin 7) : (Rd (F := F) m ρ).amount (rcvCell c j) 0 d = N := by
  show amountOf (kind (.dma (rcvSem j))) = N
  rw [kind_rcv]; rfl

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_snd : (Rd (F := F) m ρ).expect (sndCell c j) 0 = N := by
  unfold Schedule.expect Schedule.amountOf; rw [duties_snd, Finset.sum_singleton, amount_snd]
theorem expect_rcv : (Rd (F := F) m ρ).expect (rcvCell c j) 0 = N := by
  unfold Schedule.expect Schedule.amountOf; rw [duties_rcv, Finset.sum_singleton, amount_rcv]

theorem payload_bar (d : Fin 7) : (Rd (F := F) m ρ).payload (barCell c) 0 d = iprop(∃ f, slotPts (src c d) c fullShare f) := by
  show payOf m ρ c d (kind (.reg barS)) = _
  rw [kind_bar]; rfl
theorem payload_snd (d : Fin 7) : (Rd (F := F) m ρ).payload (sndCell c j) 0 d = slotPts c c (half j) (KV m ρ) := by
  show payOf m ρ c d (kind (.dma (sndSem j))) = _
  rw [kind_snd]; rfl
theorem payload_rcv (d : Fin 7) : (Rd (F := F) m ρ).payload (rcvCell c j) 0 d = slotPts c (src c j) fullShare (KV m ρ) := by
  show payOf m ρ c d (kind (.dma (rcvSem j))) = _
  rw [kind_rcv]; rfl

/-- What the barrier's round hands over: room in all seven other devices. -/
theorem rest_bar : bigSep ((Rd (F := F) m ρ).duties (barCell c) 0 \ ∅) (fun d => (Rd (F := F) m ρ).payload (barCell c) 0 d)
    = bigSep Finset.univ (fun d : Fin 7 => iprop(∃ f, slotPts (src c d) c fullShare f)) := by
  rw [Finset.sdiff_empty, duties_bar]
  exact congrArg _ (funext fun d => payload_bar m ρ c d)
theorem rest_snd : bigSep ((Rd (F := F) m ρ).duties (sndCell c j) 0 \ ∅) (fun d => (Rd (F := F) m ρ).payload (sndCell c j) 0 d)
    = slotPts c c (half j) (KV m ρ) := by
  rw [Finset.sdiff_empty, duties_snd, bigSep_singleton, payload_snd]
theorem rest_rcv : bigSep ((Rd (F := F) m ρ).duties (rcvCell c j) 0 \ ∅) (fun d => (Rd (F := F) m ρ).payload (rcvCell c j) 0 d)
    = slotPts c (src c j) fullShare (KV m ρ) := by
  rw [Finset.sdiff_empty, duties_rcv, bigSep_singleton, payload_rcv]

end Sched

/-! ## Levels, and what a device owes -/

/-- The distance of the copy started at position `n`, and back. -/
def ord : Fin 7 → Fin 7 := ![5, 1, 2, 4, 6, 0, 3]
def pos : Fin 7 → Fin 7 := ![5, 1, 2, 6, 3, 0, 4]
theorem pos_ord : ∀ n, pos (ord n) = n := by decide
theorem ord_pos : ∀ j, ord (pos j) = j := by decide

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvOf : Option CellIx → ℕ
  | some (.inl _) => 1
  | some (.inr (.inr j)) => 2 + (pos j).val
  | _ => 0
/-- Staging and send semaphores at level 0, the barrier at 1, the receive semaphores above, in the order of the copies. -/
def lv (g : GSem nD τ sig) (_ : Unit) : ℕ := lvOf (kind g.2)

/-- What device `c` owes for the copies from position `7 - n` on. -/
def OR (c : Dev nD) : ℕ → CellTallies nD τ sig Unit
  | 0 => 0
  | n + 1 => OR c n + tallyAt (rcvCell (tgt c (ord ⟨6 - n, by omega⟩)) (ord ⟨6 - n, by omega⟩)) () N

/-- What device `c` owes for all its copies and its last `n` barrier signals. -/
def OB (c : Dev nD) : ℕ → CellTallies nD τ sig Unit
  | 0 => OR c 7
  | n + 1 => OB c n + tallyAt (barCell (tgt c ⟨6 - n, by omega⟩)) () 1

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- A cell owed a copy from position `7 - n` on is a receive cell of a level above `8 - n`. -/
theorem OR_pos (c : Dev nD) : ∀ (n : ℕ) (hn : n ≤ 7) {g : GSem nD τ sig} {u : Unit}, 0 < OR c n g u → u ∈ L g ∧ 8 - n < lv g u
  | 0, _, g, u, h => absurd h (Nat.lt_irrefl 0)
  | n + 1, hn, g, u, h => by
    unfold OR at h
    rw [Pi.add_apply, Finsupp.add_apply] at h
    by_cases h1 : 0 < OR c n g u
    · obtain ⟨ha, hb⟩ := OR_pos c n (by omega) h1
      exact ⟨ha, by omega⟩
    · rw [Nat.eq_zero_of_not_pos h1, Nat.zero_add] at h
      rw [tally_pos h]
      refine ⟨by rw [L_tc]; exact Finset.mem_singleton_self _, ?_⟩
      show 8 - (n + 1) < lvOf (kind (.dma (rcvSem _)))
      rw [kind_rcv]
      show 8 - (n + 1) < 2 + (pos (ord _)).val
      rw [pos_ord]
      show 8 - (n + 1) < 2 + (6 - n)
      omega

/-- A cell owed anything is at a positive level. -/
theorem OB_pos (c : Dev nD) : ∀ (n : ℕ) {g : GSem nD τ sig} {u : Unit}, 0 < OB c n g u → u ∈ L g ∧ 0 < lv g u
  | 0, g, u, h => by
    obtain ⟨ha, hb⟩ := OR_pos c 7 le_rfl h
    exact ⟨ha, by omega⟩
  | n + 1, g, u, h => by
    unfold OB at h
    rw [Pi.add_apply, Finsupp.add_apply] at h
    by_cases h1 : 0 < OB c n g u
    · exact OB_pos c n h1
    · rw [Nat.eq_zero_of_not_pos h1, Nat.zero_add] at h
      rw [tally_pos h]
      refine ⟨by rw [L_tc]; exact Finset.mem_singleton_self _, ?_⟩
      show 0 < lvOf (kind (.reg barS))
      rw [kind_bar]
      exact Nat.one_pos

/-- A device may wait at a semaphore whose level lies below everything it owes. -/
theorem mayWait_below (c : Dev nD) (sm : SemLoc sig) (O : CellTallies nD τ sig Unit)
    (hO : ∀ (g : GSem nD τ sig) (u : Unit), 0 < O g u → u ∈ L g ∧ lvOf (kind sm) < lv g u) :
    (levAts L lv : sProp 𝕄) ⊢ MayWait (c : Thread nD τ) sm () O :=
  MayOwe.of_cut (L := L) (lev := lv) (lvOf (kind sm)) (fun p hp => by rw [Finset.mem_singleton.mp hp, L_tc]; exact Finset.mem_singleton_self _)
    (fun g u hg => (hO g u hg).1) (fun p hp => by rw [Finset.mem_singleton.mp hp]; exact le_rfl) (fun g u hg => (hO g u hg).2)

/-- Before the last `n` copies are started a device may wait at its barrier, its send semaphores and the receive
    semaphores of the copies already started. -/
theorem mayWait_OR (c : Dev nD) (sm : SemLoc sig) (n : ℕ) (hn : n ≤ 7) (h : lvOf (kind sm) ≤ 8 - n) :
    (levAts L lv : sProp 𝕄) ⊢ MayWait (c : Thread nD τ) sm () (OR c n) :=
  mayWait_below c sm _ fun g u hg => ⟨(OR_pos c n hn hg).1, Nat.lt_of_le_of_lt h (OR_pos c n hn hg).2⟩

/-- At any time of the signals a device may wait at a semaphore of level 0. -/
theorem mayWait_OB (c : Dev nD) (sm : SemLoc sig) (n : ℕ) (h : lvOf (kind sm) = 0) :
    (levAts L lv : sProp 𝕄) ⊢ MayWait (c : Thread nD τ) sm () (OB c n) :=
  mayWait_below c sm _ fun g u hg => ⟨(OB_pos c n hg).1, by rw [h]; exact (OB_pos c n hg).2⟩

/-! ## The devices and slices the program names -/

theorem dev1_eq (c : Dev nD) : (⟨k0_dev1 c, k0_dev1_lt c⟩ : Dev nD) = tgt c 0 := Fin.ext (k0_dev1_eq c)
theorem dev2_eq (c : Dev nD) : (⟨k0_dev2 c, k0_dev2_lt c⟩ : Dev nD) = tgt c 1 := Fin.ext (k0_dev2_eq c)
theorem dev3_eq (c : Dev nD) : (⟨k0_dev3 c, k0_dev3_lt c⟩ : Dev nD) = tgt c 2 := Fin.ext (k0_dev3_eq c)
theorem dev4_eq (c : Dev nD) : (⟨k0_dev4 c, k0_dev4_lt c⟩ : Dev nD) = tgt c 3 := Fin.ext (k0_dev4_eq c)
theorem dev5_eq (c : Dev nD) : (⟨k0_dev5 c, k0_dev5_lt c⟩ : Dev nD) = tgt c 4 := Fin.ext (k0_dev5_eq c)
theorem dev6_eq (c : Dev nD) : (⟨k0_dev6 c, k0_dev6_lt c⟩ : Dev nD) = tgt c 5 := Fin.ext (k0_dev6_eq c)
theorem dev7_eq (c : Dev nD) : (⟨k0_dev7 c, k0_dev7_lt c⟩ : Dev nD) = tgt c 6 := Fin.ext (k0_dev7_eq c)
theorem dev8_eq (c : Dev nD) : (⟨k0_dev8 c, k0_dev8_lt c⟩ : Dev nD) = tgt c 5 := Fin.ext (k0_dev8_eq c)
theorem dev9_eq (c : Dev nD) : (⟨k0_dev9 c, k0_dev9_lt c⟩ : Dev nD) = tgt c 1 := Fin.ext (k0_dev9_eq c)
theorem dev10_eq (c : Dev nD) : (⟨k0_dev10 c, k0_dev10_lt c⟩ : Dev nD) = tgt c 2 := Fin.ext (k0_dev10_eq c)
theorem dev11_eq (c : Dev nD) : (⟨k0_dev11 c, k0_dev11_lt c⟩ : Dev nD) = tgt c 4 := Fin.ext (k0_dev11_eq c)
theorem dev12_eq (c : Dev nD) : (⟨k0_dev12 c, k0_dev12_lt c⟩ : Dev nD) = tgt c 6 := Fin.ext (k0_dev12_eq c)
theorem dev13_eq (c : Dev nD) : (⟨k0_dev13 c, k0_dev13_lt c⟩ : Dev nD) = tgt c 0 := Fin.ext (k0_dev13_eq c)
theorem dev14_eq (c : Dev nD) : (⟨k0_dev14 c, k0_dev14_lt c⟩ : Dev nD) = tgt c 3 := Fin.ext (k0_dev14_eq c)

end Cert.Exchange
-- ==== Proof.Steps.lean ====
/-
What the kernel's stores leave in a slot and its loads read from one, and one rule per effect of the exchange: a signal,
the barrier wait, the start of a copy, the two waits of a copy. Each rule is stated once, for the distance `j + 1`.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## One plane of one slot -/

section Planes
variable {off : Fin 4 → Nat} (inb : ∀ a, off a + S1x1x1024x128.size a ≤ S8x2x1024x128.size a) {p b : Nat} (hoff : off = ![p, b, 0, 0])

/-- The buffer seen through the rectangle of one plane of one slot. -/
abbrev planeV : View sig .tc .vmem S1x1x1024x128 .i8 :=
  (Memref.whole cc0_scratch0 : Memref sig .tc .vmem S8x2x1024x128 .i8).access (Rect.unit (s := S8x2x1024x128) off S1x1x1024x128.size inb)

include hoff in
theorem plane_emb (x : S1x1x1024x128.Idx) :
    ((((planeV inb).emb x : S8x2x1024x128.Idx) 0).val = p ∧ (((planeV inb).emb x : S8x2x1024x128.Idx) 1).val = b) ∧ plane ((planeV inb).emb x) = x := by
  subst hoff
  have e : ∀ a, (((planeV inb).emb x : S8x2x1024x128.Idx) a).val = (![p, b, 0, 0] : Fin 4 → Nat) a + 1 * (x a).val := fun a => rfl
  have h0 : (x 0).val < 1 := (x 0).isLt
  have h1 : (x 1).val < 1 := (x 1).isLt
  have h2 : (x 2).val < 1024 := (x 2).isLt
  have h3 : (x 3).val < 128 := (x 3).isLt
  refine ⟨⟨?_, ?_⟩, ?_⟩
  · have := e 0
    have e' : (((planeV inb).emb x : S8x2x1024x128.Idx) 0).val = p + 1 * (x 0).val := this
    omega
  · have := e 1
    have e' : (((planeV inb).emb x : S8x2x1024x128.Idx) 1).val = b + 1 * (x 1).val := this
    omega
  · funext a
    apply Fin.ext
    show (((planeV inb).emb x : S8x2x1024x128.Idx) a).val % S1x1x1024x128.size a = (x a).val
    rw [e]
    fin_cases a
    · show (p + 1 * (x 0).val) % 1 = (x 0).val; omega
    · show (b + 1 * (x 1).val) % 1 = (x 1).val; omega
    · show (0 + 1 * (x 2).val) % 1024 = (x 2).val; omega
    · show (0 + 1 * (x 3).val) % 128 = (x 3).val; omega

include hoff in
theorem plane_mem (i : S8x2x1024x128.Idx) : i ∈ (planeV inb).set ↔ (i 0).val = p ∧ (i 1).val = b := by
  constructor
  · intro h
    obtain ⟨x, _, hx⟩ := Finset.mem_map.mp h
    rw [← show (planeV inb).emb x = i from hx]
    exact (plane_emb inb hoff x).1
  · rintro ⟨h0, h1⟩
    have : (planeV inb).emb (plane i) = i := by
      funext a
      apply Fin.ext
      have e : (((planeV inb).emb (plane i) : S8x2x1024x128.Idx) a).val = off a + 1 * ((i a).val % S1x1x1024x128.size a) := rfl
      rw [e, congrFun hoff a]
      have h2 : (i 2).val < 1024 := (i 2).isLt
      have h3 : (i 3).val < 128 := (i 3).isLt
      fin_cases a
      · show p + 1 * ((i 0).val % 1) = (i 0).val; omega
      · show b + 1 * ((i 1).val % 1) = (i 1).val; omega
      · show 0 + 1 * ((i 2).val % 1024) = (i 2).val; omega
      · show 0 + 1 * ((i 3).val % 128) = (i 3).val; omega
    rw [← this]
    exact View.emb_mem_set _ _

include hoff in
/-- A store to a plane changes the elements of that plane only. -/
theorem write_plane (f : (cc0_scratch0 : Ref sig .tc).ty.Contents (Elt F)) (w : S1x1x1024x128.Idx → Elt F .i8) (i : S8x2x1024x128.Idx) :
    (planeV inb).write (Elt F) f w Finset.univ i = if (i 0).val = p ∧ (i 1).val = b then w (plane i) else f i := by
  by_cases h : (i 0).val = p ∧ (i 1).val = b
  · rw [if_pos h]
    obtain ⟨x, _, hx⟩ := Finset.mem_map.mp ((plane_mem inb hoff i).mpr h)
    have hx' : (planeV inb).emb x = i := hx
    rw [← hx', View.write_emb_of_mem _ _ (Finset.mem_univ x), (plane_emb inb hoff x).2]
    rfl
  · rw [if_neg h]
    exact View.write_of_not_mem _ _ _ fun hm => h ((plane_mem inb hoff i).mp (View.setOn_subset_set _ _ hm))

include hoff in
/-- A load of a plane reads the elements of that plane. -/
theorem read_plane (f : (cc0_scratch0 : Ref sig .tc).ty.Contents (Elt F)) (w : S1x1x1024x128.Idx → Elt F .i8)
    (h : ∀ i : S8x2x1024x128.Idx, (i 0).val = p → (i 1).val = b → f i = w (plane i)) :
    (Memref.whole cc0_scratch0 : Memref sig .tc .vmem S8x2x1024x128 .i8).view.readAt (Elt F) (Rect.unit (s := S8x2x1024x128) off S1x1x1024x128.size inb).toLoadRect f = w := by
  funext x
  have e := plane_emb inb hoff x
  have h' := h _ e.1.1 e.1.2
  rw [e.2] at h'
  exact h'

include hoff in
/-- A plane of slot `p` lies in slot `p`. -/
theorem plane_sub (c q : Dev nD) (hq : q.val = p) :
    (Memref.whole cc0_scratch0 : Memref sig .tc .vmem S8x2x1024x128 .i8).view.setOn (Rect.unit (s := S8x2x1024x128) off S1x1x1024x128.size inb).toLoadRect.set ⊆ slotSet c q := by
  have h : (Memref.whole cc0_scratch0 : Memref sig .tc .vmem S8x2x1024x128 .i8).view.setOn (Rect.unit (s := S8x2x1024x128) off S1x1x1024x128.size inb).toLoadRect.set = (planeV inb).set :=
    (View.set_slice _ _).symm
  rw [h]
  exact fun i hi => (mem_slot q i).mpr (((plane_mem inb hoff i).mp hi).1.trans hq.symm)

include hoff in
theorem plane_sub_univ (c q : Dev nD) (hq : q.val = p) : (planeV inb).setOn Finset.univ ⊆ slotSet c q := fun i hi =>
  (mem_slot q i).mpr (((plane_mem inb hoff i).mp (View.setOn_subset_set _ _ hi)).1.trans hq.symm)

end Planes

/-- The exchanged contents of slot `p`. -/
theorem KV_eq (p : Dev nD) (i : S8x2x1024x128.Idx) (h : (i 0).val = p.val) :
    KV m ρ i = if (i 1).val = 0 then k0_pay4 (kstg m ρ p) (plane i) else k0_pay5 (vstg m ρ p) (plane i) := by
  have e : i 0 = p := Fin.ext h
  subst e
  rfl

/-- After the kernel's two stores device `c`'s own slot holds its quantised keys and values. -/
theorem own_slot (c : Dev nD) (f : (cc0_scratch0 : Ref sig .tc).ty.Contents (Elt F)) (i : S8x2x1024x128.Idx) (hi : i ∈ slotSet c c) :
    (planeV (k0_off2_inb c)).write (Elt F) ((planeV (k0_off1_inb c)).write (Elt F) f (k0_pay4 (kstg m ρ c)) Finset.univ) (k0_pay5 (vstg m ρ c)) Finset.univ i
      = KV m ρ i := by
  have h0 : (i 0).val = c.val := (mem_slot c i).mp hi
  have h1 : (i 1).val < 2 := (i 1).isLt
  rw [write_plane _ (k0_off2_eq c), KV_eq m ρ c i h0]
  by_cases h : (i 1).val = 0
  · rw [if_pos h, if_neg (by omega), write_plane _ (k0_off1_eq c), if_pos ⟨h0, h⟩]
  · rw [if_neg h, if_pos ⟨h0, by omega⟩]

/-- A copy of a slot holding the exchanged contents leaves the exchanged contents. -/
theorem landed (p : Dev nD) (fd : (cc0_scratch0 : Ref sig .tc).ty.Contents (Elt F)) (i : S8x2x1024x128.Idx) (hi : i ∈ (slotM p).view.set) :
    (slotM p).view.write (Elt F) fd ((slotM p).view.read (Elt F) (KV m ρ)) Finset.univ i = KV m ρ i := by
  rw [View.write_read_eq_piecewise]
  exact Finset.piecewise_eq_of_mem _ _ _ hi

/-! ## The slots of a buffer, from one device's place -/

/-- Over all devices: device `c`, then the seven others by their distance. -/
theorem around (c : Dev nD) (Φ : Dev nD → sProp 𝕄) :
    bigSep Finset.univ Φ = iprop(Φ c ∗ bigSep Finset.univ fun j : Fin 7 => Φ (src c j)) := by
  have hu : (Finset.univ : Finset (Dev nD)) = insert c (Finset.univ.map ⟨src c, fun i j h => src_inj c i j h⟩) := by revert c; decide
  have hn : c ∉ Finset.univ.map ⟨src c, fun i j h => src_inj c i j h⟩ := by
    intro h
    obtain ⟨j, _, hj⟩ := Finset.mem_map.mp h
    exact src_ne c j hj
  rw [hu, BI.bigSep_insert hn, bigSep_map]
  rfl

/-- The seven distances, taken the other way round. -/
theorem reversed (Φ : Fin 7 → sProp 𝕄) : bigSep Finset.univ Φ = bigSep Finset.univ fun j : Fin 7 => Φ (opp j) :=
  bigSep_univ_equiv ⟨opp, opp, opp_opp, opp_opp⟩ Φ

theorem some_contents (c p : Dev nD) (f : Buf (Elt F) ((c : Thread nD τ).loc cc0_scratch0)) :
    (slotPts c p fullShare f : sProp 𝕄) ⊢ iprop(∃ g, slotPts c p fullShare g) := by
  iintro H
  iexists f
  iexact H

/-- The buffer of device `c` is its own slot and one slot for each other device. -/
theorem scratch_split (c : Dev nD) (f : Buf (Elt F) ((c : Thread nD τ).loc cc0_scratch0)) :
    (((c : Thread nD τ).loc cc0_scratch0) ↦{fullShare} f : sProp 𝕄)
      ⊢ iprop(slotPts c c fullShare f ∗ bigSep Finset.univ fun j : Fin 7 => iprop(∃ g, slotPts c (tgt c j) fullShare g)) := by
  rw [Ring.pointsTo_blocks (slotSet c) (slot_disjoint c) (slot_cover c) f, around c, reversed]
  refine BI.sep_mono (BI.Entails.refl _) (bigSep_mono fun j _ => ?_)
  rw [src_opp]
  exact some_contents c (tgt c j) f

/-- Its slots together are the buffer of device `c`, at some contents. -/
theorem scratch_join (c : Dev nD) (f₀ : Buf (Elt F) ((c : Thread nD τ).loc cc0_scratch0)) :
    iprop((∃ f, slotPts c c fullShare f) ∗ bigSep Finset.univ fun j : Fin 7 => iprop(∃ g, slotPts c (src c j) fullShare g))
      ⊢ (iprop(∃ f : Buf (Elt F) ((c : Thread nD τ).loc cc0_scratch0), ((c : Thread nD τ).loc cc0_scratch0) ↦{fullShare} f) : sProp 𝕄) := by
  refine BI.Entails.trans ?_ (Ring.pointsTo_blocks_join_exists (slotSet c) (slot_disjoint c) (slot_cover c) f₀)
  rw [around c]
  unfold slotPts
  exact BI.Entails.refl _

/-! ## The rules -/

/-- One member of a family held for all members. -/
theorem pick {I : Type} [Fintype I] [DecidableEq I] (Φ : I → sProp 𝕄) (i : I) : (bigSep Finset.univ Φ : sProp 𝕄) ⊢ Φ i :=
  bigSep_elim (Finset.mem_univ i)

/-- The invariants of all cells under the names `K`, that each has reached round 0, and the levels: what every device knows. -/
def recs (K : Dev nD × CellIx → ℕ) : sProp 𝕄 :=
  iprop(bigSep Finset.univ (fun ck => cellInv ER (Rd m ρ) (K ck) (kcell ck)) ∗ bigSep Finset.univ (fun ck : Dev nD × CellIx => reached ER (kcell ck) 0) ∗ levAts L lv)

instance recs_persistent (K : Dev nD × CellIx → ℕ) : BI.Persistent (recs m ρ K) := by unfold recs; infer_instance

variable (K : Dev nD × CellIx → ℕ)

theorem recs_inv (ck : Dev nD × CellIx) : recs m ρ K ⊢ cellInv ER (Rd m ρ) (K ck) (kcell ck) := by
  unfold recs
  iintro ⟨H, -, -⟩
  iapply (pick (fun ck => cellInv ER (Rd m ρ) (K ck) (kcell ck)) ck) $$ H
theorem recs_reached (ck : Dev nD × CellIx) : recs m ρ K ⊢ (reached ER (kcell ck) 0 : sProp 𝕄) := by
  unfold recs
  iintro ⟨-, H, -⟩
  iapply (pick (fun ck : Dev nD × CellIx => (reached ER (kcell ck) 0 : sProp 𝕄)) ck) $$ H
theorem recs_lev : recs m ρ K ⊢ (levAts L lv : sProp 𝕄) := by
  unfold recs
  iintro ⟨-, -, H⟩
  iexact H

/-- What device `c` owes, whatever it waits for. -/
def oweS (c : Dev nD) (O : CellTallies nD τ sig Unit) : sProp 𝕄 := iprop(∃ W, owes (c : Thread nD τ) O W)

/-- What the copy to `tgt c j` takes besides its ends: the tokens of its two duties, its place at its send semaphore. -/
def sndB (c : Dev nD) (j : Fin 7) : sProp 𝕄 :=
  iprop(dutyTok ER (sndCell c j) 0 (0 : Fin 7) ∗ dutyTok ER (rcvCell (tgt c j) j) 0 (0 : Fin 7) ∗ atPos ER (sndCell c j) 0 ∅ 0)
/-- What waiting for the copy to have left takes. -/
def flyB (c : Dev nD) (j : Fin 7) : sProp 𝕄 := iprop(cred (tallyAt (sndCell c j) () N) ∗ atPos ER (sndCell c j) 0 ∅ 0)
/-- What waiting for the copy of `src c j` takes. -/
def rcvB (c : Dev nD) (j : Fin 7) : sProp 𝕄 := iprop(cred (tallyAt (rcvCell c j) () N) ∗ atPos ER (rcvCell c j) 0 ∅ 0)

section Rules
variable {α : Type} {k : PUnit → Prog (TpuEff nD τ sig (Elt F) Λ₀ .tc) α} (c : Dev nD) (j : Fin 7)

/-- The signal to the barrier of the device `j + 1` places on gives that device room. -/
theorem step_signal {Q : α → sProp 𝕄} (n : Dev nD) (hn : n = tgt c j) (O₀ O : CellTallies nD τ sig Unit) (hO : O₀ = O + tallyAt (barCell (tgt c j)) () 1) :
    iprop(recs m ρ K ∗ oweS c O₀ ∗ dutyTok ER (barCell (tgt c j)) 0 j ∗ ∃ g, slotPts c (tgt c j) fullShare g)
      ⊢ iprop((oweS c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (n, Proc.tc) barS (1#32).toInt) k) Q) := by
  subst hn
  unfold oweS
  iintro ⟨#HR, ⟨%W, HO⟩, Ht, Hroom⟩ Hk
  iapply (Rounds.wp_signal 𝒱₀ ER (Rd m ρ) (c : Thread nD τ) none (dst := (tgt c j : Thread nD τ)) (κ := K (tgt c j, .inl ()))
      (d := j) (by rw [duties_bar]; exact Finset.mem_univ _) (amount_bar m ρ (tgt c j) j) () O hO) $$ [HO Ht Hroom]
  · isplitr; · iapply (recs_inv m ρ K (tgt c j, .inl ())) $$ HR
    isplitl [HO]; · iexact HO
    isplitl [Ht]; · iexact Ht
    isplitl [Hroom]
    · rw [payload_bar, src_tgt]; iexact Hroom
    iapply (recs_reached m ρ K (tgt c j, .inl ())) $$ HR
  iintro HO
  iapply Hk
  iexists W
  iexact HO

/-- The barrier wait gives room in every other device; the barrier semaphore is then at zero for good. -/
theorem step_barrier {Q : α → sProp 𝕄} :
    iprop(recs m ρ K ∗ oweS c (OR c 7) ∗ cred (tallyAt (barCell c) () 7) ∗ atPos ER (barCell c) 0 ∅ 0)
      ⊢ iprop(((oweS c (OR c 7) ∗ semVal (barCell c) 0 ∗ bigSep Finset.univ fun d : Fin 7 => iprop(∃ g, slotPts (tgt c d) c fullShare g)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toInt) k) Q) := by
  unfold oweS
  iintro ⟨#HR, ⟨%W, HO⟩, Hc, Hat⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := OR c 7) (W := W) (R := 0) (m := 0) (T := ∅)
      (by rw [expect_bar]; decide)) $$ [Hc HO Hat]
  · isplitr; · iapply (recs_inv m ρ K (c, .inl ())) $$ HR
    isplitl [Hc]; · iexact Hc
    isplitl [HO]; · iexact HO
    isplitr
    · iapply (mayWait_OR c (.reg barS) 7 le_rfl (by rw [kind_bar]; exact le_rfl))
      iapply (recs_lev m ρ K) $$ HR
    iexact Hat
  iintro ⟨HO, Hat, -, Hpay⟩
  ihave Hp := (Entails.of_eq (((rest_bar m ρ c).trans (reversed _)).trans (congrArg _ (funext fun d => by rw [src_opp])))) $$ Hpay
  imod (Rounds.cell_close ER (Rd m ρ) (Set.mem_univ (K (c, .inl ()))) (fun h => h) (R := 0 + 1) (duties_later m ρ (barCell c))) $$ [Hat] with Hz
  · isplitr; · iapply (recs_inv m ρ K (c, .inl ())) $$ HR
    iexact Hat
  iapply Hk
  isplitl [HO]
  · iexists _; iexact HO
  isplitl [Hz]; · iexact Hz
  iexact Hp

/-- The copy of the own slot to the device `j + 1` places on, from a half share of the slot. -/
theorem step_send {Q : α → sProp 𝕄} (n : Dev nD) (hn : n = tgt c j) (sS rS : DmaSem sig) (hS : sS = sndSem j) (hR : rS = rcvSem j)
    {hsc : (slotM c : Memref sig (Dev.tc n : Thread nD τ).2.kind .vmem S2x1024x128 .i8).view.ref.isScScratch = false}
    {hsrc : (slotM c).view.WordExact} {hdst : (slotM c).view.WordExact}
    {hsem : DmaTarget.Typed .vmem (.dma rS) (.remote (Dev.tc n : Thread nD τ) (slotM c : Memref sig .tc .vmem S2x1024x128 .i8) (.dma sS) hsc)}
    (O₀ O : CellTallies nD τ sig Unit) (hO : O₀ = O + tallyAt (rcvCell (tgt c j) j) () N) :
    iprop(recs m ρ K ∗ oweS c O₀ ∗ sndB c j ∗ slotPts c c (half j) (KV m ρ) ∗ ∃ g, slotPts (tgt c j) c fullShare g)
      ⊢ iprop(((oweS c O ∗ flyB c j) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (slotM c) (.remote (Dev.tc n : Thread nD τ) (slotM c) (.dma sS) hsc) (.dma rS) hsrc hdst hsem) k) Q) := by
  subst hn hS hR
  unfold oweS sndB flyB
  iintro ⟨#HR, ⟨%W, HO⟩, ⟨HtS, HtR, Hat⟩, Hown, ⟨%g, Hroom⟩⟩ Hk
  unfold slotPts
  iapply (Rounds.wp_send_pointsTo 𝒱₀ ER (Rd m ρ) (c : Thread nD τ) none (κ₁ := K (c, .inr (.inl j))) (κ₂ := K (tgt c j, .inr (.inr j)))
    (r₁ := 0) (r₂ := 0) (d₁ := 0) (d₂ := 0) (fd := g)
    (by rw [duties_snd]; exact Finset.mem_singleton_self _) (by rw [duties_rcv]; exact Finset.mem_singleton_self _)
    () () N (by exact N_eq c) (amount_snd m ρ c j 0) (amount_rcv m ρ (tgt c j) j 0) O hO (W := W)
    (by rw [payload_snd]; exact BI.Entails.refl _)
    (by
      rw [payload_rcv, src_tgt]
      unfold slotPts
      exact Entails.of_eq (pointsTo_congr fun i hi => landed m ρ c g i hi))) $$ [HO HtS HtR Hown Hroom]
  · isplitr; · iapply (recs_inv m ρ K (c, .inr (.inl j))) $$ HR
    isplitr; · iapply (recs_inv m ρ K (tgt c j, .inr (.inr j))) $$ HR
    isplitl [Hown]; · iexact Hown
    isplitl [Hroom]; · iexact Hroom
    isplitl [HO]; · iexact HO
    isplitl [HtS]; · iexact HtS
    isplitr; · iapply (recs_reached m ρ K (c, .inr (.inl j))) $$ HR
    isplitl [HtR]; · iexact HtR
    iapply (recs_reached m ρ K (tgt c j, .inr (.inr j))) $$ HR
  iintro ⟨Hc, HO⟩
  iapply Hk
  isplitl [HO]
  · iexists W; iexact HO
  isplitl [Hc]; · iexact Hc
  iexact Hat

/-- The wait for a started copy to have left gives the half share of the own slot back. -/
theorem step_sent {Q : α → sProp 𝕄} (sS : DmaSem sig) (hS : sS = sndSem j) (n : ℕ) (hn : n ≤ 7) {hsrc : (slotM c).view.WordExact} {hdst : (slotM c).view.WordExact} :
    iprop(recs m ρ K ∗ oweS c (OR c n) ∗ flyB c j)
      ⊢ iprop(((oweS c (OR c n) ∗ semVal (sndCell c j) 0 ∗ slotPts c c (half j) (KV m ρ)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS (slotM c) (slotM c) hsrc hdst) k) Q) := by
  subst hS
  unfold oweS flyB
  iintro ⟨#HR, ⟨%W, HO⟩, Hc, Hat⟩ Hk
  iapply (Rounds.wp_wait_rest_token 𝒱₀ ER (Rd m ρ) (c : Thread nD τ) none (κ := K (c, .inr (.inl j)))
      (wpE_waitDma2_eq 𝒱₀ (c : Thread nD τ) none Set.univ) (Set.mem_univ _) () (O := OR c n) (W := W) (R := 0) (m := 0) (T := ∅)
      (by rw [Nat.zero_add, expect_snd]; exact N_eq c)) $$ [Hc HO Hat]
  · isplitr; · iapply (recs_inv m ρ K (c, .inr (.inl j))) $$ HR
    isplitl [Hc]; · iexact Hc
    isplitl [HO]; · iexact HO
    isplitr
    · iapply (mayWait_OR c (.dma (sndSem j)) n hn (by rw [kind_snd]; exact Nat.zero_le _))
      iapply (recs_lev m ρ K) $$ HR
    iexact Hat
  iintro ⟨HO, Hat, -, Hpay⟩
  ihave Hp := (Entails.of_eq (rest_snd m ρ c j)) $$ Hpay
  imod (Rounds.cell_close ER (Rd m ρ) (Set.mem_univ (K (c, .inr (.inl j)))) (fun h => h) (R := 0 + 1) (duties_later m ρ (sndCell c j))) $$ [Hat] with Hz
  · isplitr; · iapply (recs_inv m ρ K (c, .inr (.inl j))) $$ HR
    iexact Hat
  iapply Hk
  isplitl [HO]
  · iexists _; iexact HO
  isplitl [Hz]; · iexact Hz
  iexact Hp

/-- The wait for the copy of `src c j` gives its slot with that device's keys and values. -/
theorem step_received {Q : α → sProp 𝕄} (rS : DmaSem sig) (hR : rS = rcvSem j) (n : ℕ) (hn : n ≤ 7) (hj : 2 + (pos j).val ≤ 8 - n)
    {hsrc : (slotM c).view.WordExact} {hdst : (slotM c).view.WordExact} :
    iprop(recs m ρ K ∗ oweS c (OR c n) ∗ rcvB c j)
      ⊢ iprop(((oweS c (OR c n) ∗ semVal (rcvCell c j) 0 ∗ slotPts c (src c j) fullShare (KV m ρ)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS (slotM c) (slotM c) hsrc hdst) k) Q) := by
  subst hR
  unfold oweS rcvB
  iintro ⟨#HR, ⟨%W, HO⟩, Hc, Hat⟩ Hk
  iapply (Rounds.wp_wait_rest_token 𝒱₀ ER (Rd m ρ) (c : Thread nD τ) none (κ := K (c, .inr (.inr j)))
      (wpE_waitDma2_eq 𝒱₀ (c : Thread nD τ) none Set.univ) (Set.mem_univ _) () (O := OR c n) (W := W) (R := 0) (m := 0) (T := ∅)
      (by rw [Nat.zero_add, expect_rcv]; exact N_eq c)) $$ [Hc HO Hat]
  · isplitr; · iapply (recs_inv m ρ K (c, .inr (.inr j))) $$ HR
    isplitl [Hc]; · iexact Hc
    isplitl [HO]; · iexact HO
    isplitr
    · iapply (mayWait_OR c (.dma (rcvSem j)) n hn (by rw [kind_rcv]; exact hj))
      iapply (recs_lev m ρ K) $$ HR
    iexact Hat
  iintro ⟨HO, Hat, -, Hpay⟩
  ihave Hp := (Entails.of_eq (rest_rcv m ρ c j)) $$ Hpay
  imod (Rounds.cell_close ER (Rd m ρ) (Set.mem_univ (K (c, .inr (.inr j)))) (fun h => h) (R := 0 + 1) (duties_later m ρ (rcvCell c j))) $$ [Hat] with Hz
  · isplitr; · iapply (recs_inv m ρ K (c, .inr (.inr j))) $$ HR
    iexact Hat
  iapply Hk
  isplitl [HO]
  · iexists _; iexact HO
  isplitl [Hz]; · iexact Hz
  iexact Hp

/-- A load of the keys of a received slot. -/
theorem step_keys {off : Fin 4 → Nat} (inb : ∀ a, off a + S1x1x1024x128.size a ≤ S8x2x1024x128.size a) (hoff : off = ![(src c j).val, 0, 0, 0])
    {hl : (Memref.whole cc0_scratch0 : Memref sig .tc .vmem S8x2x1024x128 .i8).view.LoadsAt (Rect.unit (s := S8x2x1024x128) off S1x1x1024x128.size inb).toLoadRect}
    {kk : (S1x1x1024x128.Idx → Elt F .i8) → Prog (TpuEff nD τ sig (Elt F) Λ₀ .tc) α} {Q : α → sProp 𝕄} :
    slotPts c (src c j) fullShare (KV m ρ)
      ⊢ iprop((slotPts c (src c j) fullShare (KV m ρ) -∗ wp frame (wpE (defs₀ (F := F)) 𝒱₀ (c : Thread nD τ) none) Set.univ (kk (k0_pay4 (kstg m ρ (src c j)))) Q)
          -∗ wp frame (wpE (defs₀ (F := F)) 𝒱₀ (c : Thread nD τ) none) Set.univ (.op (.load (Memref.whole cc0_scratch0) (Rect.unit (s := S8x2x1024x128) off S1x1x1024x128.size inb).toLoadRect hl) kk) Q) := by
  have e := read_plane inb hoff (KV m ρ) (k0_pay4 (kstg m ρ (src c j))) fun i h0 h1 => by
    rw [KV_eq m ρ (src c j) i h0, if_pos h1]
  have h := wp_load 𝒱₀ (defs := defs₀ (F := F)) (c : Thread nD τ) none Set.univ (m := (Memref.whole cc0_scratch0 : Memref sig .tc .vmem S8x2x1024x128 .i8)) (hl := hl) (k := kk) (Q := Q)
    (Γ := PendingWaitsCtx.empty) (q := fullShare) (f := KV m ρ) (plane_sub inb hoff c (src c j) rfl)
  rw [e] at h
  exact h

/-- A load of the values of a received slot. -/
theorem step_values {off : Fin 4 → Nat} (inb : ∀ a, off a + S1x1x1024x128.size a ≤ S8x2x1024x128.size a) (hoff : off = ![(src c j).val, 1, 0, 0])
    {hl : (Memref.whole cc0_scratch0 : Memref sig .tc .vmem S8x2x1024x128 .i8).view.LoadsAt (Rect.unit (s := S8x2x1024x128) off S1x1x1024x128.size inb).toLoadRect}
    {kk : (S1x1x1024x128.Idx → Elt F .i8) → Prog (TpuEff nD τ sig (Elt F) Λ₀ .tc) α} {Q : α → sProp 𝕄} :
    slotPts c (src c j) fullShare (KV m ρ)
      ⊢ iprop((slotPts c (src c j) fullShare (KV m ρ) -∗ wp frame (wpE (defs₀ (F := F)) 𝒱₀ (c : Thread nD τ) none) Set.univ (kk (k0_pay5 (vstg m ρ (src c j)))) Q)
          -∗ wp frame (wpE (defs₀ (F := F)) 𝒱₀ (c : Thread nD τ) none) Set.univ (.op (.load (Memref.whole cc0_scratch0) (Rect.unit (s := S8x2x1024x128) off S1x1x1024x128.size inb).toLoadRect hl) kk) Q) := by
  have e := read_plane inb hoff (KV m ρ) (k0_pay5 (vstg m ρ (src c j))) fun i h0 h1 => by
    rw [KV_eq m ρ (src c j) i h0, if_neg (by omega)]
  have h := wp_load 𝒱₀ (defs := defs₀ (F := F)) (c : Thread nD τ) none Set.univ (m := (Memref.whole cc0_scratch0 : Memref sig .tc .vmem S8x2x1024x128 .i8)) (hl := hl) (k := kk) (Q := Q)
    (Γ := PendingWaitsCtx.empty) (q := fullShare) (f := KV m ρ) (plane_sub inb hoff c (src c j) rfl)
  rw [e] at h
  exact h

end Rules

end Cert.Exchange
-- ==== Proof.Body.lean ====
/-
One run of the kernel's body on a device `c`, with contents: from the launch resources of the device to its output block
and its semaphores back at zero. The device is a variable throughout.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The output -/

section Output
variable (c : Dev nD)

/-- The scaled queries of the device. -/
abbrev qs : FVec F S1024x128 .bf16 := k0_pay6 (qstg m ρ c)
/-- The quantised keys and values of the device `j + 1` places before. -/
abbrev kq (j : Fin 7) : IVec S1x1x1024x128 8 := k0_pay4 (kstg m ρ (src c j))
abbrev vq (j : Fin 7) : IVec S1x1x1024x128 8 := k0_pay5 (vstg m ρ (src c j))

/-- The running sum of exponentials after the own block and the first one to five received blocks. -/
def lsum₀ : FVec F S1024x1 .f32 := k0_pay10 (k0_pay2 (kstg m ρ c)) (qs m ρ c) (k0_pay7 (F := F))
def lsum₄ : FVec F S1024x1 .f32 :=
  k0_pay22 (qs m ρ c) (k0_pay19 (qs m ρ c) (k0_pay16 (qs m ρ c) (k0_pay13 (qs m ρ c) (lsum₀ m ρ c) (kq m ρ c 5)) (kq m ρ c 1)) (kq m ρ c 2)) (kq m ρ c 4)
/-- The running weighted sum of values after the own block, after four received blocks. -/
def vsum₀ : FVec F S1024x128 .f32 := k0_pay11 (k0_pay2 (kstg m ρ c)) (k0_pay3 (vstg m ρ c)) (qs m ρ c) (k0_pay8 (F := F))
def vsum₄ : FVec F S1024x128 .f32 :=
  k0_pay23 (qs m ρ c) (k0_pay20 (qs m ρ c) (k0_pay17 (qs m ρ c) (k0_pay14 (qs m ρ c) (vsum₀ m ρ c) (kq m ρ c 5) (vq m ρ c 5)) (kq m ρ c 1) (vq m ρ c 1)) (kq m ρ c 2) (vq m ρ c 2))
    (kq m ρ c 4) (vq m ρ c 4)
/-- The two sums after all seven received blocks. -/
def lsum₇ : FVec F S1024x1 .f32 :=
  k0_pay32 (qs m ρ c) (k0_pay29 (qs m ρ c) (k0_pay26 (qs m ρ c) (lsum₄ m ρ c) (kq m ρ c 6)) (kq m ρ c 0)) (kq m ρ c 3)
def vsum₇ : FVec F S1024x128 .f32 :=
  k0_pay33 (qs m ρ c) (k0_pay30 (qs m ρ c) (vsum₄ m ρ c) (k0_pay24 (vq m ρ c 6)) (k0_pay27 (qs m ρ c) (kq m ρ c 6)) (constant S1024x128 .f32 0x00000000#32) (kq m ρ c 0) (vq m ρ c 0))
    (kq m ρ c 3) (vq m ρ c 3)

/-- What the kernel leaves in device `c`'s output window. -/
def outAt : (cc0_stg3_0 : Ref sig .tc).ty.Contents (Elt F) := k0_pay1 (lsum₇ m ρ c) (vsum₇ m ρ c)

end Output

/-! ## The pipeline's data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What a device starts with besides its buffers: what every device knows, its barrier credit and place, the tokens of its
    signals, what its copies take, what its receives take. -/
def hand (K : Dev nD × CellIx → ℕ) (c : Dev nD) : sProp 𝕄 :=
  iprop(recs m ρ K ∗ (cred (tallyAt (barCell c) () 7) ∗ atPos ER (barCell c) 0 ∅ 0)
    ∗ (bigSep Finset.univ fun j : Fin 7 => dutyTok ER (barCell (tgt c j)) 0 j)
    ∗ (bigSep Finset.univ fun j : Fin 7 => sndB c j) ∗ bigSep Finset.univ fun j : Fin 7 => rcvB c j)
def start (c : Dev nD) : sProp 𝕄 := iprop(∃ K, hand m ρ K c)

/-- The exchange buffer, at some contents. -/
def room (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ room c)
/-- At the end: the buffer, and every semaphore of the exchange at zero. -/
def Φ₁ (c : Dev nD) : sProp 𝕄 :=
  iprop(room c ∗ semVal (barCell c) 0 ∗ (bigSep Finset.univ fun j : Fin 7 => semVal (sndCell c j) 0) ∗ bigSep Finset.univ fun j : Fin 7 => semVal (rcvCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => OB c 7
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Small facts the run uses -/

theorem hz : (![0, 0] : Fin 2 → Nat) = fun _ => 0 := funext fun a => by fin_cases a <;> rfl

/-- The exchange buffer. -/
abbrev scrM : Memref sig .tc .vmem S8x2x1024x128 .i8 := Memref.whole cc0_scratch0

/-- The rectangle of a whole block. -/
abbrev whole2 : Rect S1024x128 := Rect.unit (s := S1024x128) ![0, 0] S1024x128.size inb_S1024x128_S1024x128_0_0

theorem read_q (f : (cc0_stg0_0 : Ref sig .tc).ty.Contents (Elt F)) :
    (Memref.whole cc0_stg0_0 : Memref sig .tc .vmem S1024x128 .f32).view.readAt (Elt F) whole2.toLoadRect f = f :=
  Memref.readAt_unit_zero (Elt F) cc0_stg0_0 hz _ f
theorem read_k (f : (cc0_stg1_0 : Ref sig .tc).ty.Contents (Elt F)) :
    (Memref.whole cc0_stg1_0 : Memref sig .tc .vmem S1024x128 .f32).view.readAt (Elt F) whole2.toLoadRect f = f :=
  Memref.readAt_unit_zero (Elt F) cc0_stg1_0 hz _ f
theorem read_v (f : (cc0_stg2_0 : Ref sig .tc).ty.Contents (Elt F)) :
    (Memref.whole cc0_stg2_0 : Memref sig .tc .vmem S1024x128 .f32).view.readAt (Elt F) whole2.toLoadRect f = f :=
  Memref.readAt_unit_zero (Elt F) cc0_stg2_0 hz _ f
theorem write_out (f w : (cc0_stg3_0 : Ref sig .tc).ty.Contents (Elt F)) :
    ((Memref.whole cc0_stg3_0 : Memref sig .tc .vmem S1024x128 .f32).access whole2 : View sig .tc _ _ _).write (Elt F) f w Finset.univ = w :=
  Memref.write_access_unit_zero_univ (Elt F) cc0_stg3_0 hz _ f w

/-- A family over the seven distances, member by member. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A slot held in full is held as two halves. -/
theorem slot_halves (c p : Dev nD) (f : Buf (Elt F) ((c : Thread nD τ).loc cc0_scratch0)) :
    (slotPts c p fullShare f : sProp 𝕄) ⊢ iprop(slotPts c p fullShare.left f ∗ slotPts c p fullShare.right f) :=
  (pointsTo_share (PosShare.mem_left_op_right fullShare)).1
theorem slot_whole (c p : Dev nD) (f : Buf (Elt F) ((c : Thread nD τ).loc cc0_scratch0)) :
    iprop(slotPts c p fullShare.left f ∗ slotPts c p fullShare.right f) ⊢ (slotPts c p fullShare f : sProp 𝕄) :=
  (pointsTo_share (PosShare.mem_left_op_right fullShare)).2

theorem slot_open (c p : Dev nD) (q : PosShare TreeShare) (f : Buf (Elt F) ((c : Thread nD τ).loc cc0_scratch0)) :
    (slotPts c p q f : sProp 𝕄) ⊢ (((c : Thread nD τ).loc cc0_scratch0) ↦[slotSet c p]{q} f : sProp 𝕄) := BI.Entails.refl _

/-- After the two stores the own slot holds the device's quantised keys and values. -/
theorem own_filled (c : Dev nD) (f : (cc0_scratch0 : Ref sig .tc).ty.Contents (Elt F)) :
    (((c : Thread nD τ).loc cc0_scratch0) ↦[slotSet c c]{fullShare}
        (planeV (k0_off2_inb c)).write (Elt F) ((planeV (k0_off1_inb c)).write (Elt F) f (k0_pay4 (kstg m ρ c)) Finset.univ) (k0_pay5 (vstg m ρ c)) Finset.univ : sProp 𝕄)
      ⊢ slotPts c c fullShare (KV m ρ) :=
  Entails.of_eq (pointsTo_congr fun i hi => own_slot m ρ c f i hi)

theorem received_some (c : Dev nD) :
    (bigSep Finset.univ fun j : Fin 7 => slotPts c (src c j) fullShare (KV m ρ) : sProp 𝕄)
      ⊢ bigSep Finset.univ fun j : Fin 7 => iprop(∃ g, slotPts c (src c j) fullShare g) :=
  bigSep_mono fun j _ => some_contents c (src c j) (KV m ρ)

/-- The two halves of the own slot and the received slots are the buffer again. -/
theorem scratch_back (c : Dev nD) :
    iprop(slotPts c c fullShare.left (KV m ρ) ∗ slotPts c c fullShare.right (KV m ρ) ∗ bigSep Finset.univ fun j : Fin 7 => slotPts c (src c j) fullShare (KV m ρ))
      ⊢ (iprop(∃ f : Buf (Elt F) ((c : Thread nD τ).loc cc0_scratch0), ((c : Thread nD τ).loc cc0_scratch0) ↦{fullShare} f) : sProp 𝕄) := by
  iintro ⟨HL, HW, HB⟩
  iapply (scratch_join c (KV m ρ))
  isplitl [HL HW]
  · iexists KV m ρ
    iapply (slot_whole c c (KV m ρ))
    isplitl [HL] <;> iassumption
  iapply (received_some m ρ c) $$ HB

/-- What a device owes, whatever it waits for. -/
theorem owe_intro (c : Dev nD) (O : CellTallies nD τ sig Unit) (W : Waits sig Unit) : (owes (c : Thread nD τ) O W : sProp 𝕄) ⊢ oweS c O := by
  unfold oweS
  iintro H
  iexists W
  iexact H

/-! ## The run -/

variable (K : Dev nD × CellIx → ℕ)

def bodyPre (c : Dev nD) : sProp 𝕄 :=
  iprop((hand m ρ K c ∗ room c) ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 (qstg m ρ c) ∗ stg c cc0_stg1_0 (kstg m ρ c) ∗ stg c cc0_stg2_0 (vstg m ρ c)
    ∗ stg c cc0_stg3_0 (outAt m ρ c))

set_option maxHeartbeats 4000000 in
set_option maxRecDepth 65536 in
/-- The kernel's body on device `c`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre hand room
  simp only [seven]
  iintro ⟨⟨⟨⟨#HR, ⟨HcB, HaB⟩, ⟨G0, G1, G2, G3, G4, G5, G6⟩, ⟨S0, S1, S2, S3, S4, S5, S6⟩, ⟨V0, V1, V2, V3, V4, V5, V6⟩⟩, ⟨%f0, Hscr⟩⟩,
    Ho, ⟨%d0, %g0, %hg0, Hq⟩, ⟨%d1, %g1, %hg1, Hkk⟩, ⟨%d2, %g2, %hg2, Hv⟩, ⟨%d3, %g3, %hg3, Hout⟩⟩, Hk⟩
  have hq : g0 = qstg m ρ c := by rw [hg0]; unfold Dat.before; rw [if_pos (fetch_0 t₀)]; rfl
  have hkk : g1 = kstg m ρ c := by rw [hg1]; unfold Dat.before; rw [if_pos (fetch_1 t₀)]; rfl
  have hv : g2 = vstg m ρ c := by rw [hg2]; unfold Dat.before; rw [if_pos (fetch_2 t₀)]; rfl
  subst hq hkk hv
  unfold Dat.owesAt Pipeline.owesWithin
  icases Ho with ⟨%W, %hW, HO⟩
  rw [show (dats m ρ 0 c).owed t₀.castSucc = OB c 7 from rfl]
  ihave Hsp := (scratch_split c f0) $$ Hscr
  simp only [seven]
  icases Hsp with ⟨Hown, R0, R1, R2, R3, R4, R5, R6⟩
  -- the argument loads, and the quantised keys and values into the own slot
  iapply (wp_load 𝒱₀ (c : Thread nD τ) none Set.univ (m := (Memref.whole cc0_stg1_0 : Memref sig .tc .vmem S1024x128 .f32)) (Finset.subset_univ _)) $$ Hkk; iintro Hkk
  rw [read_k]
  iapply (wp_load 𝒱₀ (c : Thread nD τ) none Set.univ (m := (Memref.whole cc0_stg2_0 : Memref sig .tc .vmem S1024x128 .f32)) (Finset.subset_univ _)) $$ Hv; iintro Hv
  rw [read_v]
  ihave Hown := (slot_open c c fullShare f0) $$ Hown
  iapply (wp_load 𝒱₀ (c : Thread nD τ) none Set.univ (m := scrM) (plane_sub (k0_off1_inb c) (k0_off1_eq c) c c rfl)) $$ Hown; iintro Hown
  iapply (wp_store 𝒱₀ (c : Thread nD τ) none Set.univ (m := scrM) (Mk := Finset.univ) (plane_sub_univ (k0_off1_inb c) (k0_off1_eq c) c c rfl)) $$ Hown; iintro Hown
  iapply (wp_load 𝒱₀ (c : Thread nD τ) none Set.univ (m := scrM) (plane_sub (k0_off2_inb c) (k0_off2_eq c) c c rfl)) $$ Hown; iintro Hown
  iapply (wp_store 𝒱₀ (c : Thread nD τ) none Set.univ (m := scrM) (Mk := Finset.univ) (plane_sub_univ (k0_off2_inb c) (k0_off2_eq c) c c rfl)) $$ Hown; iintro Hown
  ihave Hown := (own_filled m ρ c f0) $$ Hown
  ihave Hown := (slot_halves c c (KV m ρ)) $$ Hown
  icases Hown with ⟨HL, HW⟩
  ihave HO := (owe_intro c (OB c 7) W) $$ HO
  -- the barrier
  iapply (step_signal m ρ K c 0 _ (dev1_eq c) (OB c 7) (OB c 6) rfl) $$ [HO G0 R0]
  · isplitr; · iexact HR
    isplitl [HO]; · iexact HO
    isplitl [G0] <;> iassumption
  iintro HO
  iapply (step_signal m ρ K c 1 _ (dev2_eq c) (OB c 6) (OB c 5) rfl) $$ [HO G1 R1]
  · isplitr; · iexact HR
    isplitl [HO]; · iexact HO
    isplitl [G1] <;> iassumption
  iintro HO
  iapply (step_signal m ρ K c 2 _ (dev3_eq c) (OB c 5) (OB c 4) rfl) $$ [HO G2 R2]
  · isplitr; · iexact HR
    isplitl [HO]; · iexact HO
    isplitl [G2] <;> iassumption
  iintro HO
  iapply (step_signal m ρ K c 3 _ (dev4_eq c) (OB c 4) (OB c 3) rfl) $$ [HO G3 R3]
  · isplitr; · iexact HR
    isplitl [HO]; · iexact HO
    isplitl [G3] <;> iassumption
  iintro HO
  iapply (step_signal m ρ K c 4 _ (dev5_eq c) (OB c 3) (OB c 2) rfl) $$ [HO G4 R4]
  · isplitr; · iexact HR
    isplitl [HO]; · iexact HO
    isplitl [G4] <;> iassumption
  iintro HO
  iapply (step_signal m ρ K c 5 _ (dev6_eq c) (OB c 2) (OB c 1) rfl) $$ [HO G5 R5]
  · isplitr; · iexact HR
    isplitl [HO]; · iexact HO
    isplitl [G5] <;> iassumption
  iintro HO
  iapply (step_signal m ρ K c 6 _ (dev7_eq c) (OB c 1) (OB c 0) rfl) $$ [HO G6 R6]
  · isplitr; · iexact HR
    isplitl [HO]; · iexact HO
    isplitl [G6] <;> iassumption
  iintro HO
  iapply (step_barrier m ρ K c) $$ [HO HcB HaB]
  · isplitr; · iexact HR
    isplitl [HO]; · iexact HO
    isplitl [HcB] <;> iassumption
  iintro ⟨HO, ZB, Hroom⟩
  simp only [seven]
  icases Hroom with ⟨P0, P1, P2, P3, P4, P5, P6⟩
  iapply (wp_load 𝒱₀ (c : Thread nD τ) none Set.univ (m := (Memref.whole cc0_stg0_0 : Memref sig .tc .vmem S1024x128 .f32)) (Finset.subset_univ _)) $$ Hq; iintro Hq
  rw [read_q]
  -- the copies, at most two in flight, and the received blocks
  iapply (step_send m ρ K c 5 _ (dev8_eq c) _ _ (by rfl) (by rfl) (OR c 7) (OR c 6) (by rfl)) $$ [HO S5 HL P5]
  · isplitr; · iexact HR
    isplitl [HO]; · iexact HO
    isplitl [S5]; · iexact S5
    isplitl [HL]; · iexact HL
    iexact P5
  iintro ⟨HO, Y5⟩
  iapply (step_send m ρ K c 1 _ (dev9_eq c) _ _ (by rfl) (by rfl) (OR c 6) (OR c 5) (by rfl)) $$ [HO S1 HW P1]
  · isplitr; · iexact HR
    isplitl [HO]; · iexact HO
    isplitl [S1]; · iexact S1
    isplitl [HW]; · iexact HW
    iexact P1
  iintro ⟨HO, Y1⟩
  iapply (step_sent m ρ K c 5 _ (by rfl) 5 (by decide)) $$ [HO Y5]
  · isplitr; · iexact HR
    isplitl [HO] <;> iassumption
  iintro ⟨HO, Z5, HL⟩
  iapply (step_send m ρ K c 2 _ (dev10_eq c) _ _ (by rfl) (by rfl) (OR c 5) (OR c 4) (by rfl)) $$ [HO S2 HL P2]
  · isplitr; · iexact HR
    isplitl [HO]; · iexact HO
    isplitl [S2]; · iexact S2
    isplitl [HL]; · iexact HL
    iexact P2
  iintro ⟨HO, Y2⟩
  iapply (step_received m ρ K c 5 _ (by rfl) 4 (by decide) (by decide)) $$ [HO V5]
  · isplitr; · iexact HR
    isplitl [HO] <;> iassumption
  iintro ⟨HO, X5, B5⟩
  iapply (step_keys m ρ c 5 _ (k0_off4_eq c 5)) $$ B5; iintro B5
  iapply (step_values m ρ c 5 _ (k0_off5_eq c 5)) $$ B5; iintro B5
  iapply (step_sent m ρ K c 1 _ (by rfl) 4 (by decide)) $$ [HO Y1]
  · isplitr; · iexact HR
    isplitl [HO] <;> iassumption
  iintro ⟨HO, Z1, HW⟩
  iapply (step_send m ρ K c 4 _ (dev11_eq c) _ _ (by rfl) (by rfl) (OR c 4) (OR c 3) (by rfl)) $$ [HO S4 HW P4]
  · isplitr; · iexact HR
    isplitl [HO]; · iexact HO
    isplitl [S4]; · iexact S4
    isplitl [HW]; · iexact HW
    iexact P4
  iintro ⟨HO, Y4⟩
  iapply (step_received m ρ K c 1 _ (by rfl) 3 (by decide) (by decide)) $$ [HO V1]
  · isplitr; · iexact HR
    isplitl [HO] <;> iassumption
  iintro ⟨HO, X1, B1⟩
  iapply (step_keys m ρ c 1 _ (k0_off4_eq c 1)) $$ B1; iintro B1
  iapply (step_values m ρ c 1 _ (k0_off5_eq c 1)) $$ B1; iintro B1
  iapply (step_sent m ρ K c 2 _ (by rfl) 3 (by decide)) $$ [HO Y2]
  · isplitr; · iexact HR
    isplitl [HO] <;> iassumption
  iintro ⟨HO, Z2, HL⟩
  iapply (step_send m ρ K c 6 _ (dev12_eq c) _ _ (by rfl) (by rfl) (OR c 3) (OR c 2) (by rfl)) $$ [HO S6 HL P6]
  · isplitr; · iexact HR
    isplitl [HO]; · iexact HO
    isplitl [S6]; · iexact S6
    isplitl [HL]; · iexact HL
    iexact P6
  iintro ⟨HO, Y6⟩
  iapply (step_received m ρ K c 2 _ (by rfl) 2 (by decide) (by decide)) $$ [HO V2]
  · isplitr; · iexact HR
    isplitl [HO] <;> iassumption
  iintro ⟨HO, X2, B2⟩
  iapply (step_keys m ρ c 2 _ (k0_off4_eq c 2)) $$ B2; iintro B2
  iapply (step_values m ρ c 2 _ (k0_off5_eq c 2)) $$ B2; iintro B2
  iapply (step_sent m ρ K c 4 _ (by rfl) 2 (by decide)) $$ [HO Y4]
  · isplitr; · iexact HR
    isplitl [HO] <;> iassumption
  iintro ⟨HO, Z4, HW⟩
  iapply (step_send m ρ K c 0 _ (dev13_eq c) _ _ (by rfl) (by rfl) (OR c 2) (OR c 1) (by rfl)) $$ [HO S0 HW P0]
  · isplitr; · iexact HR
    isplitl [HO]; · iexact HO
    isplitl [S0]; · iexact S0
    isplitl [HW]; · iexact HW
    iexact P0
  iintro ⟨HO, Y0⟩
  iapply (step_received m ρ K c 4 _ (by rfl) 1 (by decide) (by decide)) $$ [HO V4]
  · isplitr; · iexact HR
    isplitl [HO] <;> iassumption
  iintro ⟨HO, X4, B4⟩
  iapply (step_keys m ρ c 4 _ (k0_off4_eq c 4)) $$ B4; iintro B4
  iapply (step_values m ρ c 4 _ (k0_off5_eq c 4)) $$ B4; iintro B4
  iapply (step_sent m ρ K c 6 _ (by rfl) 1 (by decide)) $$ [HO Y6]
  · isplitr; · iexact HR
    isplitl [HO] <;> iassumption
  iintro ⟨HO, Z6, HL⟩
  iapply (step_send m ρ K c 3 _ (dev14_eq c) _ _ (by rfl) (by rfl) (OR c 1) (OR c 0) (by rfl)) $$ [HO S3 HL P3]
  · isplitr; · iexact HR
    isplitl [HO]; · iexact HO
    isplitl [S3]; · iexact S3
    isplitl [HL]; · iexact HL
    iexact P3
  iintro ⟨HO, Y3⟩
  iapply (step_received m ρ K c 6 _ (by rfl) 0 (by decide) (by decide)) $$ [HO V6]
  · isplitr; · iexact HR
    isplitl [HO] <;> iassumption
  iintro ⟨HO, X6, B6⟩
  iapply (step_keys m ρ c 6 _ (k0_off4_eq c 6)) $$ B6; iintro B6
  iapply (step_values m ρ c 6 _ (k0_off5_eq c 6)) $$ B6; iintro B6
  iapply (step_received m ρ K c 0 _ (by rfl) 0 (by decide) (by decide)) $$ [HO V0]
  · isplitr; · iexact HR
    isplitl [HO] <;> iassumption
  iintro ⟨HO, X0, B0⟩
  iapply (step_keys m ρ c 0 _ (k0_off4_eq c 0)) $$ B0; iintro B0
  iapply (step_values m ρ c 0 _ (k0_off5_eq c 0)) $$ B0; iintro B0
  iapply (step_received m ρ K c 3 _ (by rfl) 0 (by decide) (by decide)) $$ [HO V3]
  · isplitr; · iexact HR
    isplitl [HO] <;> iassumption
  iintro ⟨HO, X3, B3⟩
  iapply (step_keys m ρ c 3 _ (k0_off4_eq c 3)) $$ B3; iintro B3
  iapply (step_values m ρ c 3 _ (k0_off5_eq c 3)) $$ B3; iintro B3
  iapply (step_sent m ρ K c 0 _ (by rfl) 0 (by decide)) $$ [HO Y0]
  · isplitr; · iexact HR
    isplitl [HO] <;> iassumption
  iintro ⟨HO, Z0, HW⟩
  iapply (step_sent m ρ K c 3 _ (by rfl) 0 (by decide)) $$ [HO Y3]
  · isplitr; · iexact HR
    isplitl [HO] <;> iassumption
  iintro ⟨HO, Z3, HL⟩
  -- the output
  iapply (wp_load 𝒱₀ (c : Thread nD τ) none Set.univ (m := (Memref.whole cc0_stg3_0 : Memref sig .tc .vmem S1024x128 .f32)) (Finset.subset_univ _)) $$ Hout; iintro Hout
  iapply (wp_store 𝒱₀ (c : Thread nD τ) none Set.univ (m := (Memref.whole cc0_stg3_0 : Memref sig .tc .vmem S1024x128 .f32)) (r := whole2) (Mk := Finset.univ) (Finset.subset_univ _)) $$ Hout; iintro Hout
  rw [write_out, wp_ret]; imodintro
  iapply Hk
  unfold bodyPost Φ₁ room Dat.owesAt Pipeline.owesWithin
  rw [show (dats m ρ 0 c).owed t₀.succ = 0 from rfl]
  simp only [seven]
  ihave Hscr := (scratch_back m ρ c) $$ [HL HW B0 B1 B2 B3 B4 B5 B6]
  · simp only [seven]
    isplitl [HL]; · iexact HL
    isplitl [HW]; · iexact HW
    isplitl [B0]; · iexact B0
    isplitl [B1]; · iexact B1
    isplitl [B2]; · iexact B2
    isplitl [B3]; · iexact B3
    isplitl [B4]; · iexact B4
    isplitl [B5] <;> iassumption
  isplitl [Hscr ZB Z0 Z1 Z2 Z3 Z4 Z5 Z6 X0 X1 X2 X3 X4 X5 X6]
  · isplitl [Hscr]; · iexact Hscr
    isplitl [ZB]; · iexact ZB
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5] <;> iassumption
    isplitl [X0]; · iexact X0
    isplitl [X1]; · iexact X1
    isplitl [X2]; · iexact X2
    isplitl [X3]; · iexact X3
    isplitl [X4]; · iexact X4
    isplitl [X5] <;> iassumption
  isplitl [HO]
  · unfold oweS
    icases HO with ⟨%W', HO⟩
    iexists W'
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 8000 in
/-- The pipeline's one step is the run of the body. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyPre' Φ₀ start
  iintro ⟨⟨⟨%K, Hh⟩, Hr⟩, H⟩
  iapply (sound_body m ρ K c fun _ => bodyPost m ρ c)
  unfold bodyPre
  isplitr []
  · isplitl [Hh Hr]
    · isplitl [Hh] <;> iassumption
    iexact H
  · iintro H; iexact H

end Cert.Exchange
-- ==== Proof.Run.lean ====
/-
The launch: the exchange's ghost state is made from the eight devices' semaphores at zero, its tokens are dealt from the
device that is credited to the device that credits, the levels order the waits, and the library's launch theorem turns the
run of the body on one device into a run of the whole program.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## The ghost state made at launch -/

/-- The duties: of a barrier the seven distances, of a send or receive semaphore one. -/
abbrev TokIx : Type := Fin 7 ⊕ OwnIx
def tokOf (ct : Dev nD × TokIx) : GSem nD τ sig × ℕ × Fin 7 :=
  match ct.2 with
  | .inl j => (barCell ct.1, 0, j)
  | .inr k => (kcell (ct.1, .inr k), 0, 0)

theorem tokOf_injective : Function.Injective tokOf := by
  rintro ⟨c, j | k⟩ ⟨c', j' | k'⟩ h
  · have h1 : ((c, .inl ()) : Dev nD × CellIx) = (c', .inl ()) := kcell_injective (congrArg Prod.fst h)
    have h2 : j = j' := congrArg (fun x : GSem nD τ sig × ℕ × Fin 7 => x.2.2) h
    obtain rfl := (Prod.mk.inj h1).1
    rw [h2]
  · have h1 : ((c, .inl ()) : Dev nD × CellIx) = (c', .inr k') := kcell_injective (congrArg Prod.fst h)
    cases congrArg Prod.snd h1
  · have h1 : ((c, .inr k) : Dev nD × CellIx) = (c', .inl ()) := kcell_injective (congrArg Prod.fst h)
    cases congrArg Prod.snd h1
  · have h1 : ((c, .inr k) : Dev nD × CellIx) = (c', .inr k') := kcell_injective (congrArg Prod.fst h)
    obtain ⟨rfl, hk⟩ := Prod.mk.inj h1
    rw [Sum.inr.inj hk]

def allCells : Finset (GSem nD τ sig) := Finset.univ.map ⟨kcell, kcell_injective⟩
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duty tokens of device `c`'s own semaphores. -/
def toks (c : Dev nD) : sProp 𝕄 :=
  iprop((bigSep Finset.univ fun j : Fin 7 => dutyTok ER (barCell c) 0 j)
    ∗ (bigSep Finset.univ fun j : Fin 7 => dutyTok ER (sndCell c j) 0 (0 : Fin 7)) ∗ bigSep Finset.univ fun j : Fin 7 => dutyTok ER (rcvCell c j) 0 (0 : Fin 7))

/-- A device's share of the exchange's ghost state, before the semaphores are put under invariants. -/
def G (c : Dev nD) : sProp 𝕄 :=
  iprop((bigSep Finset.univ fun k : CellIx => roundState ER (Rd m ρ) (kcell (c, k)) 0)
    ∗ (bigSep Finset.univ fun k : CellIx => atPos ER (kcell (c, k)) 0 ∅ 0) ∗ (bigSep Finset.univ fun k : CellIx => reached ER (kcell (c, k)) 0) ∗ toks c)

/-- A device's places at its own semaphores. -/
def places (c : Dev nD) : sProp 𝕄 := bigSep Finset.univ fun k : CellIx => atPos ER (kcell (c, k)) 0 ∅ 0

/-- The duty tokens device `c` spends: of the other barriers, of its own sends, of its targets' receives. -/
def spends (c : Dev nD) : sProp 𝕄 :=
  iprop((bigSep Finset.univ fun j : Fin 7 => dutyTok ER (barCell (tgt c j)) 0 j)
    ∗ (bigSep Finset.univ fun j : Fin 7 => dutyTok ER (sndCell c j) 0 (0 : Fin 7)) ∗ bigSep Finset.univ fun j : Fin 7 => dutyTok ER (rcvCell (tgt c j) j) 0 (0 : Fin 7))

/-- The invariants under the names `K` and that every semaphore has reached round 0. -/
def known (K : Dev nD × CellIx → ℕ) : sProp 𝕄 :=
  iprop(bigSep Finset.univ (fun ck => cellInv ER (Rd m ρ) (K ck) (kcell ck)) ∗ bigSep Finset.univ (fun ck : Dev nD × CellIx => reached ER (kcell ck) 0))

instance known_persistent (K : Dev nD × CellIx → ℕ) : BI.Persistent (known m ρ K) := by unfold known; infer_instance

/-- A device's share once the semaphores are under invariants. -/
def G' (c : Dev nD) : sProp 𝕄 := iprop(∃ K, known m ρ K ∗ places c ∗ spends c)

/-- Over the kinds of semaphores: the barrier, the send semaphores, the receive semaphores. -/
theorem kinds (Φ : CellIx → sProp 𝕄) :
    bigSep Finset.univ Φ = iprop(Φ (.inl ()) ∗ (bigSep Finset.univ fun j : Fin 7 => Φ (.inr (.inl j))) ∗ bigSep Finset.univ fun j : Fin 7 => Φ (.inr (.inr j))) := by
  rw [BI.bigSep_univ_sum, BI.bigSep_univ_sum, Finset.univ_unique, bigSep_singleton]
  rfl

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [bigSep_sep']
  isplitl [Hst']; · iexact Hst'
  isplitl [Hat']; · iexact Hat'
  isplitl [Hr'] <;> iassumption

/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sndCell c j) 0) ∗ bigSep Finset.univ fun j : Fin 7 => semVal (rcvCell c j) 0) := by
  show bigSep Finset.univ (fun k : OwnIx => (semVal ((c : Thread nD τ), osem k) 0 : sProp 𝕄)) = _
  rw [BI.bigSep_univ_sum]
  rfl
/-- The barrier is the program's one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero go under invariants. -/
theorem invs_made (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ places c ∗ (bigSep Finset.univ fun k : CellIx => reached ER (kcell (c, k)) 0) ∗ toks c) := by
  unfold G
  rw [ownSems0_eq, unscopedSems0_eq]
  iintro ⟨⟨Hs, Hr⟩, Hb, Hst, Hat, Hre, Htok⟩
  imod (show iprop((bigSep Finset.univ fun k : CellIx => semVal (kcell (c, k)) 0) ∗ bigSep Finset.univ fun k : CellIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hs Hr Hb Hst] with Hinv
  · isplitl [Hs Hr Hb]
    · rw [kinds]
      isplitl [Hb]; · iexact Hb
      isplitl [Hs]; · iexact Hs
      iexact Hr
    iexact Hst
  imodintro
  isplitl [Hinv]; · iexact Hinv
  isplitl [Hat]; · unfold places; iexact Hat
  isplitl [Hre] <;> iassumption

/-- Over all devices and distances: counted at the device reached, or at the device it is reached from. -/
def reach : Dev nD × Fin 7 ≃ Dev nD × Fin 7 :=
  ⟨fun x => (tgt x.1 x.2, x.2), fun x => (src x.1 x.2, x.2), fun x => by simp only [src_tgt], fun x => by simp only [tgt_src]⟩
theorem dealt (Φ : Dev nD → Fin 7 → sProp 𝕄) :
    (bigSep Finset.univ fun c : Dev nD => bigSep Finset.univ fun j : Fin 7 => Φ c j) = bigSep Finset.univ fun c : Dev nD => bigSep Finset.univ fun j : Fin 7 => Φ (tgt c j) j := by
  rw [← bigSep_univ_prod (fun x : Dev nD × Fin 7 => Φ x.1 x.2), bigSep_univ_equiv reach, bigSep_univ_prod]
  rfl

/-- The tokens of the devices' own semaphores, dealt to the devices that spend them. -/
theorem toks_dealt : (bigSep Finset.univ fun c : Dev nD => (toks c : sProp 𝕄)) = bigSep Finset.univ fun c : Dev nD => spends c := by
  unfold toks spends
  rw [bigSep_sep', bigSep_sep', bigSep_sep', bigSep_sep', dealt (fun c j => dutyTok ER (barCell c) 0 j), dealt (fun c j => dutyTok ER (rcvCell c j) 0 (0 : Fin 7))]

/-- What every member may use, every member has. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CellIx → ℕ) (c : Dev nD) : iprop(known m ρ K ∗ places c ∗ spends c) ⊢ G' m ρ c := by
  unfold G'
  iintro H
  iexists K
  iexact H

theorem regroup :
    (bigSep Finset.univ fun c : Dev nD => iprop((bigSep Finset.univ fun k => iprop(∃ κ : ℕ, cellInv ER (Rd m ρ) κ (kcell (c, k))))
          ∗ places c ∗ (bigSep Finset.univ fun k : CellIx => reached ER (kcell (c, k)) 0) ∗ toks c) : sProp 𝕄)
      ⊢ bigSep Finset.univ (G' m ρ) := by
  rw [bigSep_sep', bigSep_sep', bigSep_sep', ← bigSep_univ_prod (fun ck : Dev nD × CellIx => iprop(∃ κ : ℕ, cellInv ER (Rd m ρ) κ (kcell ck))),
    ← bigSep_univ_prod (fun ck : Dev nD × CellIx => (reached ER (kcell ck) 0 : sProp 𝕄)), toks_dealt]
  iintro ⟨HI, Hat, #HR, Htok⟩
  ihave HK := (BI.bigSep_exists_pi Finset.univ (fun (ck : Dev nD × CellIx) (κ : ℕ) => (cellInv ER (Rd m ρ) κ (kcell ck) : sProp 𝕄))) $$ HI
  icases HK with ⟨%K, #HI⟩
  iapply (with_all (R := known m ρ K) fun c _ => G'_intro m ρ K c)
  isplitr
  · unfold known; isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => invs_made m ρ c).trans (bigSep_fupd _ _)).trans (BI.fupd_mono (regroup m ρ))

/-! ## The launch credit -/

/-- What a device owes at launch: a unit to each other barrier, a slot to each other receive semaphore. -/
def O₀ (c : Dev nD) : CellTallies nD τ sig Unit := OB c 7

theorem O₀_eq (c : Dev nD) : O₀ c = (∑ j : Fin 7, tallyAt (rcvCell (tgt c j) j) () N) + ∑ j : Fin 7, tallyAt (barCell (tgt c j)) () 1 := by
  rw [Fin.sum_univ_seven, Fin.sum_univ_seven]
  show (((((((((((((0 + tallyAt (rcvCell (tgt c 3) 3) () N) + tallyAt (rcvCell (tgt c 0) 0) () N) + tallyAt (rcvCell (tgt c 6) 6) () N)
    + tallyAt (rcvCell (tgt c 4) 4) () N) + tallyAt (rcvCell (tgt c 2) 2) () N) + tallyAt (rcvCell (tgt c 1) 1) () N) + tallyAt (rcvCell (tgt c 5) 5) () N)
    + tallyAt (barCell (tgt c 6)) () 1) + tallyAt (barCell (tgt c 5)) () 1) + tallyAt (barCell (tgt c 4)) () 1) + tallyAt (barCell (tgt c 3)) () 1)
    + tallyAt (barCell (tgt c 2)) () 1) + tallyAt (barCell (tgt c 1)) () 1) + tallyAt (barCell (tgt c 0)) () 1 = _
  abel

theorem same_bar {a b : Dev nD} : barCell a = barCell b ↔ a = b :=
  ⟨fun h => congrArg Prod.fst (kcell_injective (a₁ := (a, .inl ())) (a₂ := (b, .inl ())) h), fun h => h ▸ rfl⟩
theorem same_rcv {a b : Dev nD} {i j : Fin 7} : rcvCell a i = rcvCell b j ↔ a = b ∧ i = j :=
  ⟨fun h => by
    have e := kcell_injective (a₁ := (a, .inr (.inr i))) (a₂ := (b, .inr (.inr j))) h
    exact ⟨congrArg Prod.fst e, Sum.inr.inj (Sum.inr.inj (congrArg Prod.snd e))⟩, fun h => by rw [h.1, h.2]⟩
theorem bar_ne_rcv {a b : Dev nD} {j : Fin 7} : barCell a ≠ rcvCell b j := fun h => by
  cases congrArg Prod.snd (kcell_injective (a₁ := (a, .inl ())) (a₂ := (b, .inr (.inr j))) h)

theorem owed_bar (d c : Dev nD) : O₀ d (barCell c) () = ∑ j : Fin 7, if d = src c j then 1 else 0 := by
  rw [O₀_eq, Pi.add_apply, Finsupp.add_apply, Finset.sum_apply, Finset.sum_apply, Finsupp.finset_sum_apply, Finsupp.finset_sum_apply,
    Finset.sum_eq_zero fun j _ => by rw [tallyAt_apply, if_neg fun h => bar_ne_rcv h.1], Nat.zero_add]
  refine Finset.sum_congr rfl fun j _ => ?_
  rw [tallyAt_apply]
  by_cases h : d = src c j
  · rw [if_pos h, if_pos ⟨by rw [h, tgt_src], rfl⟩]
  · rw [if_neg h, if_neg fun h' => h (by rw [same_bar.mp h'.1, src_tgt])]

theorem owed_rcv (d c : Dev nD) (j : Fin 7) : O₀ d (rcvCell c j) () = if d = src c j then N else 0 := by
  rw [O₀_eq, Pi.add_apply, Finsupp.add_apply, Finset.sum_apply, Finset.sum_apply, Finsupp.finset_sum_apply, Finsupp.finset_sum_apply,
    Finset.sum_eq_zero (f := fun i => (tallyAt (barCell (tgt d i)) () 1 : CellTallies nD τ sig Unit) (rcvCell c j) ())
      fun i _ => by rw [tallyAt_apply, if_neg fun h => bar_ne_rcv h.1.symm], Nat.add_zero,
    Finset.sum_eq_single j (fun i _ hi => by rw [tallyAt_apply, if_neg fun h => hi (same_rcv.mp h.1).2.symm]) fun h => absurd (Finset.mem_univ j) h, tallyAt_apply]
  by_cases h : d = src c j
  · rw [if_pos h, if_pos ⟨by rw [h, tgt_src], rfl⟩]
  · rw [if_neg h, if_neg fun h' => h (by rw [(same_rcv.mp h'.1).1, src_tgt])]

/-- All devices together owe a barrier seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => Finset.sum_ite_eq' Finset.univ (src c j) fun _ => 1]
  simp

/-- All devices together owe a receive semaphore one slot. -/
theorem launch_rcv (c : Dev nD) (j : Fin 7) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (src c j) fun _ => N,
    if_pos (Finset.mem_univ _)]

/-- What a device holds at launch to wait with. -/
theorem creds (c : Dev nD) :
    (Pipeline.launchCred O₀ c : sProp 𝕄) ⊢ iprop(cred (tallyAt (barCell c) () 7) ∗ bigSep Finset.univ fun j : Fin 7 => cred (tallyAt (rcvCell c j) () N)) := by
  have hi : Function.Injective fun k : CellIx => csem k := csem_inj
  have h := bigSep_subset (Φ := fun sm : SemLoc sig => (cred (tallyOn ((c.tc : Thread nD τ), sm) (launchCredit (Pipeline.owing O₀) 0 ((c.tc : Thread nD τ), sm))) : sProp 𝕄))
    (Finset.subset_univ (Finset.univ.map ⟨csem, hi⟩))
  rw [bigSep_map, kinds] at h
  have h' : (Pipeline.launchCred O₀ c : sProp 𝕄) ⊢ iprop(cred (tallyOn (barCell c) (launchCredit (Pipeline.owing O₀) 0 (barCell c)))
      ∗ (bigSep Finset.univ fun j : Fin 7 => cred (tallyOn (sndCell c j) (launchCredit (Pipeline.owing O₀) 0 (sndCell c j))))
      ∗ bigSep Finset.univ fun j : Fin 7 => cred (tallyOn (rcvCell c j) (launchCredit (Pipeline.owing O₀) 0 (rcvCell c j)))) := h
  simp only [launch_bar, launch_rcv] at h'
  iintro H
  ihave H := h' $$ H
  icases H with ⟨Hb, -, Hr⟩
  isplitl [Hb] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨Hb, Hr⟩
  imodintro
  unfold G' start hand recs known places spends sndB rcvB
  icases HG with ⟨%K, ⟨HI, HR⟩, Hat, HtB, HtS, HtR⟩
  ihave Hat := (Entails.of_eq (kinds fun k : CellIx => (atPos ER (kcell (c, k)) 0 ∅ 0 : sProp 𝕄))) $$ Hat
  icases Hat with ⟨HaB, HaS, HaR⟩
  isplitl
  · iexists K
    isplitl [HI HR Hlev]
    · isplitl [HI]; · iexact HI
      isplitl [HR] <;> iassumption
    isplitl [Hb HaB]
    · isplitl [Hb]; · iexact Hb
      iexact HaB
    isplitl [HtB]; · iexact HtB
    isplitl [HtS HtR HaS]
    · simp only [bigSep_sep']
      isplitl [HtS]; · iexact HtS
      isplitl [HtR]; · iexact HtR
      iexact HaS
    simp only [bigSep_sep']
    isplitl [Hr]; · iexact Hr
    iexact HaR
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ room
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ room
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_OB c _ 7 (by fin_cases w <;> fin_cases s <;> decide)
    · exact mayWait_OR c _ 0 (Nat.zero_le _) (by fin_cases w <;> fin_cases s <;> decide)

/-! ## The run of the program -/

def finalA (c : Dev nD) (w : Fin cfg0.W) : Buf (Elt F) ((cfg0.win w).arr.view.loc (c : Thread nD τ)) := (dats m ρ 0 c).arrAt w cfg0.N

/-- Every device's arguments and result hold what the run leaves in them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and any memory with all semaphores at zero, every weakly fair execution of the eight devices
    terminates, leaves each array as `finalA` says, and leaves every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_q (c : Dev nD) : finalA m ρ c (0 : Fin 4) = m ((c : Thread nD τ).loc main_arg0) := (dats (F := F) m ρ 0 c).arrAt_in (0 : Fin 4) rfl _
theorem finalA_k (c : Dev nD) : finalA m ρ c (1 : Fin 4) = m ((c : Thread nD τ).loc main_arg1) := (dats (F := F) m ρ 0 c).arrAt_in (1 : Fin 4) rfl _
theorem finalA_v (c : Dev nD) : finalA m ρ c (2 : Fin 4) = m ((c : Thread nD τ).loc main_arg2) := (dats (F := F) m ρ 0 c).arrAt_in (2 : Fin 4) rfl _

end Cert.Exchange
-- ==== Proof.Frames.lean ====
/-
What the run says of whole arrays: the arguments end as they began and the result array is the block that the body leaves;
the frame of the idealized kernel and, since the two programs are one text at machine floats, the frame of the kernel.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Exchange

open Idealize.ShloMosaic
open Idealize.ShloMosaic.TcCoe
open Idealize.SL.Sem

section Arrays

open Cert.KernelIdeal Cert.KernelIdeal.Gen

variable {F : FTy → Type} [FloatOps F] [Named F]
variable (m : (ℓ : Loc nD τ sig) → Buf (Elt F) ℓ) (ρ : Dev nD → PrngReg)

/-- The result array after the run is the block that the body leaves. -/
theorem finalA_out (c : Dev nD) : finalA m ρ c (3 : Fin 4) = outAt m ρ c := by
  have hz : (fun a => (win0_3.index t₀) a * main_v1.ty.shape.size a) = fun _ => 0 := funext fun a => by fin_cases a <;> decide
  refine (Memref.read_access_unit_zero (Elt F) main_v1 hz (fun a => by fin_cases a <;> decide) (finalA m ρ c (3 : Fin 4))).symm.trans ?_
  unfold finalA
  rw [show cfg0.N = t₀.val + 1 from cfg0_N, (dats m ρ 0 c).arrAt_succ (3 : Fin 4) t₀, show (cfg0.win (3 : Fin 4)).flush t₀ = true from by decide, if_pos rfl]
  exact View.read_write_univ _ _

/-- The argument windows are the whole arguments. -/
theorem qstg_eq (c : Dev nD) : qstg m ρ c = m ((c : Thread nD τ).loc main_arg0) :=
  Memref.read_access_unit_zero (Elt F) main_arg0 (show (fun a => (win0_0.index t₀) a * main_arg0.ty.shape.size a) = fun _ => 0 from funext fun a => by fin_cases a <;> decide)
    (fun a => by fin_cases a <;> decide) _
theorem kstg_eq (c : Dev nD) : kstg m ρ c = m ((c : Thread nD τ).loc main_arg1) :=
  Memref.read_access_unit_zero (Elt F) main_arg1 (show (fun a => (win0_1.index t₀) a * main_arg1.ty.shape.size a) = fun _ => 0 from funext fun a => by fin_cases a <;> decide)
    (fun a => by fin_cases a <;> decide) _
theorem vstg_eq (c : Dev nD) : vstg m ρ c = m ((c : Thread nD τ).loc main_arg2) :=
  Memref.read_access_unit_zero (Elt F) main_arg2 (show (fun a => (win0_2.index t₀) a * main_arg2.ty.shape.size a) = fun _ => 0 from funext fun a => by fin_cases a <;> decide)
    (fun a => by fin_cases a <;> decide) _

/-- Every execution ends, with the arguments as they were, the result at the block the body leaves, and every semaphore at zero. -/
theorem run_out : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (finalA_out m ρ c), (h.1 c (0 : Fin 4)).trans (finalA_q m ρ c),
    (h.1 c (1 : Fin 4)).trans (finalA_k m ρ c), (h.1 c (2 : Fin 4)).trans (finalA_v m ρ c)⟩, h.2⟩) (run_main m ρ)

end Arrays

/-! ## The two programs at machine floats -/

/-- At machine floats a named constant is its word, as the kernel prints it. -/
instance namedWord : Named Bits where
  named _ _ {φ} b := FloatOps.ofBits φ b

theorem same_main : Cert.Kernel.main (F := Bits) = Cert.KernelIdeal.main (F := Bits) := rfl

theorem same_bodies : Cert.Kernel.defs₀ (F := Bits) = Cert.KernelIdeal.defs₀ (F := Bits) := by
  unfold Cert.Kernel.defs₀ Cert.KernelIdeal.defs₀
  congr 1; funext i x
  rcases i with ⟨_ | i, hi⟩
  · rfl
  · exact absurd hi (by omega)

theorem same_defs : Cert.Kernel.defs (F := Bits) = Cert.KernelIdeal.defs (F := Bits) :=
  congrArg (fun d => Pipeline.defs Cert.KernelIdeal.pcfgs d) same_bodies

/-! ## The frames -/

theorem frame_kernel : Cert.quiescent_Kernel := by
  intro m ρ _
  rw [same_defs, same_main]
  exact (θ_run Cert.KernelIdeal.defs _ _).mono (fun _ h => ⟨fun c => (h.1 c).2, h.2⟩) (run_out (F := Bits) m ρ)

theorem frame_ideal : Cert.quiescent_KernelIdeal := fun m ρ _ =>
  (θ_run Cert.KernelIdeal.defs _ _).mono (fun _ h => ⟨fun c => (h.1 c).2, h.2⟩) (run_out (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are the numbers that their names say. -/
theorem named_constants : Cert.preserves_Kernel_KernelIdeal :=
  ⟨IdealRules.named_const.statement Cert.KernelIdeal.κ "step" .f32 0x3D010204#32 ((4 / 127 : ℝ) : EReal) rfl,
    IdealRules.named_const.statement Cert.KernelIdeal.κ "scaled_step" .f32 0x3B3671D7#32 (((Real.sqrt 128)⁻¹ * (4 / 127) : ℝ) : EReal) rfl⟩

end Cert.Exchange
-- ==== Proof.Quant.lean ====
/-
The numbers of the two programs on the extended reals: the printed constants, the quantiser (a code is an integer between
-127 and 127, so eight bits carry it there and back), and the one equation that the two programs meet in: a softmax written
with and without the maximum subtracted, weighing values that may be infinite.
-/
module

public import Idealize.ShloMosaic.Lib.IdealHost
public import Idealize.ShloMosaic.PureOps.Ideal.Laws

@[expose] public section

noncomputable section

namespace Cert.Exchange

open Idealize.ShloMosaic
open scoped BigOperators

/-! ## Printed constants -/

theorem word_127 : Ideal.ofBits .f32 0x42FE0000#32 = ((127 : ℝ) : EReal) := by
  simp [Ideal.ofBits, Ideal.ieee, -EReal.coe_mul]; norm_num

theorem word_neg_127 : Ideal.ofBits .f32 0xC2FE0000#32 = ((-127 : ℝ) : EReal) := by
  simp [Ideal.ofBits, Ideal.ieee, -EReal.coe_mul, -EReal.coe_neg]; norm_num

theorem word_4 : Ideal.ofBits .f32 0x40800000#32 = ((4 : ℝ) : EReal) := by
  simp [Ideal.ofBits, Ideal.ieee, -EReal.coe_mul]; norm_num

theorem word_31_75 : Ideal.ofBits .f32 0x41FE0000#32 = ((31.75 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

theorem word_0 : Ideal.ofBits .f32 0x00000000#32 = 0 := by
  simp [Ideal.ofBits, Ideal.ieee]

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-- Four divided by 127, both as printed, is the named step. -/
theorem step_eq : Ideal.div (Ideal.ofBits .f32 0x40800000#32) (Ideal.ofBits .f32 0x42FE0000#32) = ((4 / 127 : ℝ) : EReal) := by
  rw [word_4, word_127, Ideal.div_coe (by norm_num), ← EReal.coe_mul]; norm_num

/-! ## The quantiser -/

/-- The code of a number: in steps, to the nearest integer, between -127 and 127. -/
def code (x : EReal) : EReal :=
  min ((127 : ℝ) : EReal) (max ((-127 : ℝ) : EReal) (Ideal.liftRound Ideal.roundHalfEven (Ideal.div x ((4 / 127 : ℝ) : EReal))))

/-- A code is an integer between -127 and 127, whatever was coded. -/
theorem code_int (x : EReal) : ∃ n : ℤ, -127 ≤ n ∧ n ≤ 127 ∧ code x = ((n : ℝ) : EReal) := by
  unfold code
  generalize Ideal.div x ((4 / 127 : ℝ) : EReal) = y
  induction y using EReal.rec with
  | bot => exact ⟨-127, by norm_num, by norm_num, by rw [Ideal.liftRound_bot, max_eq_left bot_le, min_eq_right (EReal.coe_le_coe_iff.mpr (by norm_num))]; norm_num⟩
  | top => exact ⟨127, by norm_num, by norm_num, by rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    norm_num

/-- Eight bits carry a code there and back. -/
theorem code_bits (x : EReal) :
    (((Ideal.fptosi 8 (code x)).toInt : ℝ) : EReal) = code x := by
  obtain ⟨n, h1, h2, h⟩ := code_int x
  rw [h, Ideal.fptosi, Ideal.toIntClamped_coe, Int.floor_intCast, Int.ceil_intCast, ite_self,
    show max (-((2 ^ (8 - 1) : ℕ) : ℤ)) (min (((2 ^ (8 - 1) : ℕ) : ℤ) - 1) n) = n by norm_num; omega,
    BitVec.toInt_ofInt_eq_self (by norm_num) (by norm_num; omega) (by norm_num; omega)]

/-! ## Sums of extended reals under a factor that is a nonnegative real -/

theorem mul_sum_real {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

theorem sum_real {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The softmax -/

/-- A softmax weighing the values: on the left without the maximum, the values' common factor taken out; on the right each
    weight a quotient and the maximum subtracted, one sum over the rows that are this device's own and one over the rest. -/
theorem softmax_eq {ι : Type*} [Fintype ι] [Nonempty ι] (own : ι → Prop) [DecidablePred own] (s : ι → ℝ) (M : ℝ)
    {t : ℝ} (ht : 0 ≤ t) (vc v vq : ι → EReal) (hown : ∀ i, own i → vc i * (t : EReal) = v i)
    (hrem : ∀ i, ¬ own i → vc i * (t : EReal) = vq i) :
    Ideal.div ((∑ i, ((Real.exp (s i) : ℝ) : EReal) * vc i) * (t : EReal)) ((∑ i, Real.exp (s i) : ℝ) : EReal)
      = (∑ i, (if own i then Ideal.div ((Real.exp (s i - M) : ℝ) : EReal) ((∑ i, Real.exp (s i - M) : ℝ) : EReal) else 0) * v i)
        + ∑ i, (if own i then 0 else Ideal.div ((Real.exp (s i - M) : ℝ) : EReal) ((∑ i, Real.exp (s i - M) : ℝ) : EReal)) * vq i := by
  have hpos : ∀ f : ι → ℝ, 0 < ∑ i, Real.exp (f i) := fun f => Finset.sum_pos (fun i _ => Real.exp_pos _) Finset.univ_nonempty
  have hL := hpos s
  have hR := hpos fun i => s i - M
  have hLR : (∑ i, Real.exp (s i - M)) = (∑ i, Real.exp (s i)) * Real.exp (-M) := by
    rw [Finset.sum_mul]; exact Finset.sum_congr rfl fun i _ => by rw [← Real.exp_add, sub_eq_add_neg]
  have hw : ∀ i, Ideal.div ((Real.exp (s i - M) : ℝ) : EReal) ((∑ i, Real.exp (s i - M) : ℝ) : EReal)
      = ((Real.exp (s i) * (1 / ∑ i, Real.exp (s i)) : ℝ) : EReal) := by
    intro i
    rw [Ideal.div_coe hR.ne', ← EReal.coe_mul, hLR, sub_eq_add_neg, Real.exp_add]
    congr 1
    have := (Real.exp_pos (-M)).ne'
    field_simp
  rw [Ideal.div_coe hL.ne', mul_sum_real ht, mul_sum_real (by positivity), ← Finset.sum_add_distrib]
  refine Finset.sum_congr rfl fun i _ => ?_
  rw [hw i]
  by_cases h : own i
  · rw [if_pos h, if_pos h, zero_mul, add_zero, ← hown i h, EReal.coe_mul]
    ac_rfl
  · rw [if_neg h, if_neg h, zero_mul, zero_add, ← hrem i h, EReal.coe_mul]
    ac_rfl

end Cert.Exchange
-- ==== Proof.Blocks.lean ====
/-
The block that the kernel's body leaves, entry by entry: the weighted sum over the device's own key rows and the seven
received blocks, times the step, over the sum of the weights.
-/
module

public import Idealize.ShloMosaic.Lib.MatmulPlain
public import Idealize.ShloMosaic.Lib.ValueIdx
public import Idealize.ShloMosaic.Lib.Pointwise.Reduce
public import Idealize.ShloMosaic.Lib.Pointwise.Reshape
public import Idealize.ShloMosaic.Lib.Pipeline.Value
public import Idealize.ShloMosaic.PureOps.IdealRules
public import proofs.«01_k».proof.Proof.Body
public import proofs.«01_k».proof.Proof.Quant

@[expose] public section

noncomputable section

namespace Cert.Exchange

open Idealize.ShloMosaic
open Idealize.ShloMosaic.TcCoe
open Cert.KernelIdeal Cert.KernelIdeal.Gen
open scoped BigOperators

/-! ## The three steps of a block -/

/-- The weight of one key row: the exponential of the score. -/
theorem weight_apply (q kb : FVec Ideal S1024x128 .bf16) (i r : Fin 1024) :
    (exp (matmul dot_S1024x128_S1024x128_S1024x1024_1_1_0_0_n_n none q kb (constant S1024x1024 .f32 0x00000000#32)) : FVec Ideal S1024x1024 .f32) (ValueIdx.ix2 i r)
      = Ideal.exp (∑ e : Fin 128, q (ValueIdx.ix2 i e) * kb (ValueIdx.ix2 r e)) := by
  show Ideal.exp (FloatOps.matmul (DotDims.transposedRhs 1024 128 1024) none q kb (constant S1024x1024 .f32 0x00000000#32) (ValueIdx.ix2 i r)) = _
  rw [Ideal.matmul_transposedRhs_apply]
  congr 1
  show Ideal.ofBits .f32 0x00000000#32 + _ = _
  rw [word_0, zero_add]

/-- The sum of the weights grows by the block's row sum. -/
theorem rowSum_apply (l : FVec Ideal S1024x1 .f32) (p : FVec Ideal S1024x1024 .f32) (i : Fin 1024) :
    addf l (shapeCast S1024x1 (multiReduction .add [1] S1024 p 0x00000000#32 reduces_S1024x1024_S1024 (.inl rfl) rfl) shapeCasts_S1024_S1024x1) (ValueIdx.ix2 i 0)
      = l (ValueIdx.ix2 i 0) + ∑ r : Fin 1024, p (ValueIdx.ix2 i r) := by
  show l (ValueIdx.ix2 i 0) + shapeCast S1024x1 _ shapeCasts_S1024_S1024x1 (ValueIdx.ix2 i 0) = _
  congr 1
  rw [shapeCast_apply _ shapeCasts_S1024_S1024x1 (ValueIdx.ix2 i 0) (ValueIdx.ix1 i) (by
    show (Shape.rowMajorPi _ _).val = (Shape.rowMajorPi _ _).val
    simp [Shape.rowMajorPi_succ_val, Shape.rowMajorPi_fin0_val])]
  exact Ideal.reduceAdd_r2_a1 reduces_S1024x1024_S1024 p (ValueIdx.ix1 i)

/-- The weighted sum grows by the block's weights times its values. -/
theorem weigh_apply (acc : FVec Ideal S1024x128 .f32) (p : FVec Ideal S1024x1024 .bf16) (vb : FVec Ideal S1024x128 .bf16) (i : Fin 1024) (d : Fin 128) :
    addf acc (matmul dot_S1024x1024_S1024x128_S1024x128_1_0_0_1_n_n none p vb (constant S1024x128 .f32 0x00000000#32)) (ValueIdx.ix2 i d)
      = acc (ValueIdx.ix2 i d) + ∑ r : Fin 1024, p (ValueIdx.ix2 i r) * vb (ValueIdx.ix2 r d) := by
  show acc (ValueIdx.ix2 i d) + FloatOps.matmul (DotDims.plain 1024 1024 128) none p vb (constant S1024x128 .f32 0x00000000#32) (ValueIdx.ix2 i d) = _
  rw [Ideal.matmul_plain_apply]
  congr 1
  show Ideal.ofBits .f32 0x00000000#32 + _ = _
  rw [word_0, zero_add]

/-! ## A received block -/

/-- The codes of a block, as the kernel computes them before it narrows them. -/
def codes (x : FVec Ideal S1024x128 .f32) : FVec Ideal S1024x128 .f32 :=
  minimumf (broadcast S1024x128 (Scalar.ofBits .f32 0x42FE0000#32))
    (maximumf (broadcast S1024x128 (Scalar.ofBits .f32 0xC2FE0000#32))
      (roundeven (divf x (broadcast S1024x128 (Named.named κ "step" 0x3D010204#32)))))

theorem codes_apply (x : FVec Ideal S1024x128 .f32) (i : S1024x128.Idx) : codes x i = code (x i) := by
  show min (Ideal.ofBits .f32 0x42FE0000#32) (max (Ideal.ofBits .f32 0xC2FE0000#32)
    (Ideal.liftRound Ideal.roundHalfEven (Ideal.div (x i) (Named.named (F := Ideal) (φ := .f32) κ "step" 0x3D010204#32)))) = code (x i)
  rw [word_127, word_neg_127, IdealRules.named_const.ideal_named_scalar (φ := .f32) κ "step" 0x3D010204#32 _ rfl]
  rfl

theorem bits_apply (y : FVec Ideal S1024x128 .f32) (i : S1024x128.Idx) :
    (sitofp .bf16 (fptosi 8 y) : FVec Ideal S1024x128 .bf16) i = (((Ideal.fptosi 8 (y i)).toInt : ℝ) : EReal) := rfl

theorem sent_keys (x : FVec Ideal S1024x128 .f32) :
    k0_pay4 (F := Ideal) x = shapeCast S1x1x1024x128 (fptosi 8 (codes x)) shapeCasts_S1024x128_S1x1x1024x128 := by
  show shapeCast S1x1x1024x128 (fptosi 8 (codes (shapeCast S1024x128 x shapeCasts_S1024x128_S1024x128))) shapeCasts_S1024x128_S1x1x1024x128 = _
  rw [shapeCast_self]

theorem sent_values (x : FVec Ideal S1024x128 .f32) :
    k0_pay5 (F := Ideal) x = shapeCast S1x1x1024x128 (fptosi 8 (codes x)) shapeCasts_S1024x128_S1x1x1024x128 :=
  sent_keys x

/-- A received key or value, back from its eight bits, is its code. -/
theorem received_apply (x : FVec Ideal S1024x128 .f32) (i : S1024x128.Idx) :
    (sitofp .bf16 (shapeCast S1024x128 (shapeCast S1x1x1024x128 (fptosi 8 (codes x)) shapeCasts_S1024x128_S1x1x1024x128)
      shapeCasts_S1x1x1024x128_S1024x128) : FVec Ideal S1024x128 .bf16) i = code (x i) := by
  rw [shapeCast_shapeCast, bits_apply, codes_apply, code_bits]

/-- The weight of a received key row. -/
theorem received_weight (q : FVec Ideal S1024x128 .bf16) (x : FVec Ideal S1024x128 .f32) (i r : Fin 1024) :
    k0_pay12 q (k0_pay4 (F := Ideal) x) (ValueIdx.ix2 i r) = Ideal.exp (∑ e : Fin 128, q (ValueIdx.ix2 i e) * code (x (ValueIdx.ix2 r e))) := by
  refine (weight_apply q _ i r).trans ?_
  congr 1
  refine Finset.sum_congr rfl fun e _ => ?_
  rw [sent_keys, received_apply]

/-- The sum of the weights after a received block. -/
theorem received_sum (q : FVec Ideal S1024x128 .bf16) (l : FVec Ideal S1024x1 .f32) (x : FVec Ideal S1024x128 .f32) (i : Fin 1024) :
    k0_pay13 q l (k0_pay4 (F := Ideal) x) (ValueIdx.ix2 i 0)
      = l (ValueIdx.ix2 i 0) + ∑ r : Fin 1024, Ideal.exp (∑ e : Fin 128, q (ValueIdx.ix2 i e) * code (x (ValueIdx.ix2 r e))) := by
  refine (rowSum_apply l _ i).trans ?_
  congr 1
  exact Finset.sum_congr rfl fun r _ => received_weight q x i r

/-- The weighted sum after a received block. -/
theorem received_weigh (q : FVec Ideal S1024x128 .bf16) (acc : FVec Ideal S1024x128 .f32) (x y : FVec Ideal S1024x128 .f32) (i : Fin 1024) (d : Fin 128) :
    k0_pay14 q acc (k0_pay4 (F := Ideal) x) (k0_pay5 (F := Ideal) y) (ValueIdx.ix2 i d)
      = acc (ValueIdx.ix2 i d) + ∑ r : Fin 1024,
          Ideal.exp (∑ e : Fin 128, q (ValueIdx.ix2 i e) * code (x (ValueIdx.ix2 r e))) * code (y (ValueIdx.ix2 r d)) := by
  refine (weigh_apply acc _ _ i d).trans ?_
  congr 1
  refine Finset.sum_congr rfl fun r _ => congrArg₂ (· * ·) (received_weight q x i r) ?_
  rw [sent_values, received_apply]

/-! ## The device's own block -/

/-- The device's own rows enter in steps, unrounded: times 31.75. -/
abbrev scaled (x : FVec Ideal S1024x128 .f32) (i : S1024x128.Idx) : EReal := x i * ((31.75 : ℝ) : EReal)

theorem scaled_apply (x : FVec Ideal S1024x128 .f32) (i : S1024x128.Idx) :
    (truncf .bf16 (mulf x (broadcast S1024x128 (Scalar.ofBits .f32 0x41FE0000#32))) bitsLt_bf16_f32 : FVec Ideal S1024x128 .bf16) i = scaled x i := by
  show x i * Ideal.ofBits .f32 0x41FE0000#32 = _
  rw [word_31_75]

theorem own_weight (q : FVec Ideal S1024x128 .bf16) (x : FVec Ideal S1024x128 .f32) (i r : Fin 1024) :
    k0_pay9 (F := Ideal) x q (ValueIdx.ix2 i r) = Ideal.exp (∑ e : Fin 128, q (ValueIdx.ix2 i e) * scaled x (ValueIdx.ix2 r e)) := by
  refine (weight_apply q _ i r).trans ?_
  congr 1
  exact Finset.sum_congr rfl fun e _ => congrArg (q (ValueIdx.ix2 i e) * ·) (scaled_apply x _)

theorem own_sum (q : FVec Ideal S1024x128 .bf16) (l : FVec Ideal S1024x1 .f32) (x : FVec Ideal S1024x128 .f32) (i : Fin 1024) :
    k0_pay10 (F := Ideal) x q l (ValueIdx.ix2 i 0)
      = l (ValueIdx.ix2 i 0) + ∑ r : Fin 1024, Ideal.exp (∑ e : Fin 128, q (ValueIdx.ix2 i e) * scaled x (ValueIdx.ix2 r e)) := by
  refine (rowSum_apply l _ i).trans ?_
  congr 1
  exact Finset.sum_congr rfl fun r _ => own_weight q x i r

theorem own_weigh (q : FVec Ideal S1024x128 .bf16) (acc : FVec Ideal S1024x128 .f32) (x y : FVec Ideal S1024x128 .f32) (i : Fin 1024) (d : Fin 128) :
    k0_pay11 (F := Ideal) x y q acc (ValueIdx.ix2 i d)
      = acc (ValueIdx.ix2 i d) + ∑ r : Fin 1024,
          Ideal.exp (∑ e : Fin 128, q (ValueIdx.ix2 i e) * scaled x (ValueIdx.ix2 r e)) * scaled y (ValueIdx.ix2 r d) := by
  refine (weigh_apply acc _ _ i d).trans ?_
  congr 1
  exact Finset.sum_congr rfl fun r _ => congrArg₂ (· * ·) (own_weight q x i r) (scaled_apply y _)

/-! ## The whole of it -/

/-- The rows that device `c` reads as block `b`: its own in steps, or the codes of the device that sent them. -/
def rows (x : Dev nD → FVec Ideal S1024x128 .f32) (c : Dev nD) : Option (Fin 7) → S1024x128.Idx → EReal
  | none => scaled (x c)
  | some j => fun i => code (x (src c j) i)

variable (m : (ℓ : Loc nD τ sig) → Buf (Elt Ideal) ℓ) (ρ : Dev nD → PrngReg)

/-- The weight of row `r` of block `b` for row `i` of device `c`. -/
def wt (c : Dev nD) (b : Option (Fin 7)) (i r : Fin 1024) : EReal :=
  Ideal.exp (∑ e : Fin 128, qs m ρ c (ValueIdx.ix2 i e) * rows (kstg m ρ) c b (ValueIdx.ix2 r e))

theorem qs_apply (c : Dev nD) (i : S1024x128.Idx) :
    qs m ρ c i = HMul.hMul (α := EReal) (β := EReal) (qstg m ρ c i) (((Real.sqrt 128)⁻¹ * (4 / 127) : ℝ) : EReal) := by
  show (shapeCast S1024x128 (show FVec Ideal S1024x128 .f32 from qstg m ρ c) shapeCasts_S1024x128_S1024x128 i : EReal) * (Named.named (F := Ideal) (φ := .f32) κ "scaled_step" 0x3B3671D7#32 : EReal) = _
  rw [shapeCast_self, IdealRules.named_const.ideal_named_scalar (φ := .f32) κ "scaled_step" 0x3B3671D7#32 _ rfl]

/-- The sum of all the weights of a row. -/
theorem lsum_apply (c : Dev nD) (i : Fin 1024) :
    lsum₇ m ρ c (ValueIdx.ix2 i 0) = ∑ b : Option (Fin 7), ∑ r : Fin 1024, wt m ρ c b i r := by
  have h0 : lsum₀ m ρ c (ValueIdx.ix2 i 0) = ∑ r : Fin 1024, wt m ρ c none i r := by
    have e : lsum₀ m ρ c = k0_pay10 (F := Ideal) (kstg m ρ c) (qs m ρ c) k0_pay7 :=
      congrArg (fun x => k0_pay10 (F := Ideal) x (qs m ρ c) k0_pay7) (shapeCast_self _ _)
    rw [e]
    refine (own_sum (qs m ρ c) k0_pay7 (kstg m ρ c) i).trans ?_
    show Ideal.ofBits .f32 0x00000000#32 + _ = _
    rw [word_0, zero_add]; rfl
  have hj : ∀ (j : Fin 7) (l : FVec Ideal S1024x1 .f32), k0_pay13 (qs m ρ c) l (kq m ρ c j) (ValueIdx.ix2 i 0)
      = l (ValueIdx.ix2 i 0) + ∑ r : Fin 1024, wt m ρ c (some j) i r := fun j l =>
    received_sum (qs m ρ c) l (kstg m ρ (src c j)) i
  have h : lsum₇ m ρ c = k0_pay13 (qs m ρ c) (k0_pay13 (qs m ρ c) (k0_pay13 (qs m ρ c) (k0_pay13 (qs m ρ c) (k0_pay13 (qs m ρ c)
      (k0_pay13 (qs m ρ c) (k0_pay13 (qs m ρ c) (lsum₀ m ρ c) (kq m ρ c 5)) (kq m ρ c 1)) (kq m ρ c 2)) (kq m ρ c 4)) (kq m ρ c 6)) (kq m ρ c 0)) (kq m ρ c 3) := rfl
  rw [h, hj, hj, hj, hj, hj, hj, hj, h0, Fintype.sum_option, Fin.sum_univ_seven]
  ac_rfl

/-- The weighted sum of all the values of a column. -/
theorem vsum_apply (c : Dev nD) (i : Fin 1024) (d : Fin 128) :
    vsum₇ m ρ c (ValueIdx.ix2 i d)
      = ∑ b : Option (Fin 7), ∑ r : Fin 1024, wt m ρ c b i r * rows (vstg m ρ) c b (ValueIdx.ix2 r d) := by
  have h0 : vsum₀ m ρ c (ValueIdx.ix2 i d) = ∑ r : Fin 1024, wt m ρ c none i r * rows (vstg m ρ) c none (ValueIdx.ix2 r d) := by
    have e : vsum₀ m ρ c = k0_pay11 (F := Ideal) (kstg m ρ c) (vstg m ρ c) (qs m ρ c) k0_pay8 :=
      congrArg₂ (fun x y => k0_pay11 (F := Ideal) x y (qs m ρ c) k0_pay8) (shapeCast_self _ _) (shapeCast_self _ _)
    rw [e]
    refine (own_weigh (qs m ρ c) k0_pay8 (kstg m ρ c) (vstg m ρ c) i d).trans ?_
    show Ideal.ofBits .f32 0x00000000#32 + _ = _
    rw [word_0, zero_add]; rfl
  have hj : ∀ (j : Fin 7) (a : FVec Ideal S1024x128 .f32), k0_pay14 (qs m ρ c) a (kq m ρ c j) (vq m ρ c j) (ValueIdx.ix2 i d)
      = a (ValueIdx.ix2 i d) + ∑ r : Fin 1024, wt m ρ c (some j) i r * rows (vstg m ρ) c (some j) (ValueIdx.ix2 r d) := fun j a =>
    received_weigh (qs m ρ c) a (kstg m ρ (src c j)) (vstg m ρ (src c j)) i d
  have h : vsum₇ m ρ c = k0_pay14 (qs m ρ c) (k0_pay14 (qs m ρ c) (k0_pay14 (qs m ρ c) (k0_pay14 (qs m ρ c) (k0_pay14 (qs m ρ c)
      (k0_pay14 (qs m ρ c) (k0_pay14 (qs m ρ c) (vsum₀ m ρ c) (kq m ρ c 5) (vq m ρ c 5)) (kq m ρ c 1) (vq m ρ c 1))
      (kq m ρ c 2) (vq m ρ c 2)) (kq m ρ c 4) (vq m ρ c 4)) (kq m ρ c 6) (vq m ρ c 6)) (kq m ρ c 0) (vq m ρ c 0)) (kq m ρ c 3) (vq m ρ c 3) := rfl
  rw [h, hj, hj, hj, hj, hj, hj, hj, h0, Fintype.sum_option, Fin.sum_univ_seven]
  ac_rfl

/-- An entry of the block that the body leaves. -/
theorem out_apply (c : Dev nD) (i : Fin 1024) (d : Fin 128) :
    outAt m ρ c (ValueIdx.ix2 i d)
      = Ideal.div ((∑ b : Option (Fin 7), ∑ r : Fin 1024, wt m ρ c b i r * rows (vstg m ρ) c b (ValueIdx.ix2 r d)) * ((4 / 127 : ℝ) : EReal))
          (∑ b : Option (Fin 7), ∑ r : Fin 1024, wt m ρ c b i r) := by
  rw [← vsum_apply, ← lsum_apply]
  show Ideal.div (vsum₇ m ρ c (ValueIdx.ix2 i d) * Named.named (F := Ideal) (φ := .f32) κ "step" 0x3D010204#32)
    (broadcastTo S1024x128 (lsum₇ m ρ c) broadcasts_S1024x1_S1024x128 (ValueIdx.ix2 i d)) = _
  rw [IdealRules.named_const.ideal_named_scalar (φ := .f32) κ "step" 0x3D010204#32 _ rfl,
    broadcastTo_apply (lsum₇ m ρ c) broadcasts_S1024x1_S1024x128 (ValueIdx.ix2 i d) (ValueIdx.ix2 i 0)
      (fun a => match a with | ⟨0, _⟩ => rfl | ⟨1, _⟩ => rfl)]

end Cert.Exchange
-- ==== Proof.RefValue.lean ====
/-
The result of the reference, entry by entry, under finite queries and keys: the scores are real numbers, so is each row's
maximum, and an entry is the two weighted sums of the values, one over the rows of the same block and one over the rest.
-/
module

public import Idealize.ShloMosaic.Lib.StackMember
public import Idealize.ShloMosaic.Lib.ValueIdx
public import Idealize.ShloMosaic.Lib.Pointwise.Reduce
public import Idealize.ShloMosaic.Lib.Pipeline.Value
public import Idealize.ShloMosaic.Lib.Routing.Words
public import Idealize.ShloMosaic.PureOps.Reduce
public import proofs.«01_k».proof.Proof.Gen.ReferenceIdeal.Run
public import proofs.«01_k».proof.Proof.Quant

@[expose] public section

noncomputable section

namespace Cert.Exchange.Ref

open Idealize.ShloMosaic
open Idealize.ShloMosaic.TcCoe
open Cert.ReferenceIdeal Cert.ReferenceIdeal.Gen
open scoped BigOperators

/-! ## The reference's arrays, in the order it computes them -/

/-- The device that holds each row. -/
def holder : IVec S8192x1 32 :=
  Host.divsi (iotaInDim S8192x1 32 0) (broadcastInDim S8192x1 ![] bcast_S_S8192x1 (constantI S_ 32 1024#32))

/-- Whether two rows are held by the same device. -/
def same : IVec S8192x8192 1 :=
  cmpi .eq (broadcastInDim S8192x8192 ![0, 1] bcast_S8192x1_S8192x8192_0_1 holder)
    (broadcastInDim S8192x8192 ![0, 1] bcast_S1x8192_S8192x8192_0_1 (transpose S1x8192 [1, 0] holder transposes_S8192x1_S1x8192_1_0))

/-- The step, in every entry. -/
def stepA : FVec Ideal S8192x128 .f32 :=
  broadcastInDim S8192x128 ![] bcast_S_S8192x128 (Host.divf (constant S_ .f32 0x40800000#32) (constant S_ .f32 0x42FE0000#32))

/-- An array through the quantiser and back. -/
def quantised (x : FVec Ideal S8192x128 .f32) : FVec Ideal S8192x128 .f32 :=
  mulf (minimumf (broadcastInDim S8192x128 ![] bcast_S_S8192x128 (id (constant S_ .f32 0x42FE0000#32)))
    (maximumf (broadcastInDim S8192x128 ![] bcast_S_S8192x128 (id (constant S_ .f32 0xC2FE0000#32))) (Host.roundeven (Host.divf x stepA)))) stepA

/-- The products of the rows of two arrays. -/
def products (q k : FVec Ideal S8192x128 .f32) : FVec Ideal S8192x8192 .f32 :=
  Host.dotGeneral dot_S8192x128_S128x8192_S8192x8192_1_0_0_1_n_n none q (transpose S128x8192 [1, 0] k transposes_S8192x128_S128x8192_1_0)

/-- The scores. -/
def scores (q k : FVec Ideal S8192x128 .f32) : FVec Ideal S8192x8192 .f32 :=
  Host.divf (select same (products q k) (products q (quantised k)))
    (broadcastInDim S8192x8192 ![] bcast_S_S8192x8192 (id (Host.sqrt (constant S_ .f32 0x43000000#32))))

/-- One number per row, in every column. -/
def perRow (x : FVec Ideal S8192 .f32) : FVec Ideal S8192x8192 .f32 :=
  broadcastInDim S8192x8192 ![0, 1] bcast_S8192x1_S8192x8192_0_1 (broadcastInDim S8192x1 ![0] bcast_S8192_S8192x1_0 x)

/-- Each row's maximum. -/
def rowMax (s : FVec Ideal S8192x8192 .f32) : FVec Ideal S8192 .f32 :=
  Host.reduce FloatOps.maximumf s (constant S_ .f32 0xFF800000#32) reducesTo_S8192x8192_S8192_d1 h_S_

/-- The exponentials of the scores, each row's maximum subtracted. -/
def exps (s : FVec Ideal S8192x8192 .f32) : FVec Ideal S8192x8192 .f32 := Host.exp (subf s (perRow (rowMax s)))

/-- The weights. -/
def weights (e : FVec Ideal S8192x8192 .f32) : FVec Ideal S8192x8192 .f32 :=
  Host.divf e (perRow (Host.reduceAdd e (constant S_ .f32 0x00000000#32) reducesTo_S8192x8192_S8192_d1 h_S_))

/-- Zero in every entry. -/
def zeros : FVec Ideal S8192x8192 .f32 := broadcastInDim S8192x8192 ![] bcast_S_S8192x8192 (id (constant S_ .f32 0x00000000#32))

/-- The values weighed. -/
def weighed (w : FVec Ideal S8192x8192 .f32) (v : FVec Ideal S8192x128 .f32) : FVec Ideal S8192x128 .f32 :=
  Host.dotGeneral dot_S8192x8192_S8192x128_S8192x128_1_0_0_1_n_n none w v

/-- The result. -/
def result (q k v : FVec Ideal S8192x128 .f32) : FVec Ideal S8192x128 .f32 :=
  addf (weighed (select same (weights (exps (scores q k))) zeros) v)
    (weighed (select same zeros (weights (exps (scores q k)))) (quantised v))

theorem result_eq (m : (ℓ : Loc nD τ sig) → Buf (Elt Ideal) ℓ) (c : Dev nD) :
    Value.res_main_v42 m c = result (m ((c.tc : Thread nD τ).loc main_arg0)) (m ((c.tc : Thread nD τ).loc main_arg1)) (m ((c.tc : Thread nD τ).loc main_arg2)) := rfl

/-! ## Their entries -/

theorem holder_apply (a : Fin 8192) (z : Fin 1) : holder (ValueIdx.ix2 a z) = BitVec.ofNat 32 (a.val / 1024) :=
  Routing.divsi_word .host (a := a.val) (b := 1024) (by omega) (by norm_num) (by norm_num)

theorem same_apply (a b : Fin 8192) : same (ValueIdx.ix2 a b) = BitVec.ofBool (decide (a.val / 1024 = b.val / 1024)) := by
  have h1 : broadcastInDim S8192x8192 ![0, 1] bcast_S8192x1_S8192x8192_0_1 holder (ValueIdx.ix2 a b) = BitVec.ofNat 32 (a.val / 1024) :=
    (broadcastInDim_apply ![0, 1] bcast_S8192x1_S8192x8192_0_1 holder (ValueIdx.ix2 a b) (ValueIdx.ix2 a 0)
      (fun x => match x with | ⟨0, _⟩ => rfl | ⟨1, _⟩ => rfl)).trans (holder_apply a 0)
  have h2 : broadcastInDim S8192x8192 ![0, 1] bcast_S1x8192_S8192x8192_0_1 (transpose S1x8192 [1, 0] holder transposes_S8192x1_S1x8192_1_0) (ValueIdx.ix2 a b)
      = BitVec.ofNat 32 (b.val / 1024) :=
    ((broadcastInDim_apply ![0, 1] bcast_S1x8192_S8192x8192_0_1 _ (ValueIdx.ix2 a b) (ValueIdx.ix2 0 b)
      (fun x => match x with | ⟨0, _⟩ => rfl | ⟨1, _⟩ => rfl)).trans
      (transpose_apply [1, 0] holder transposes_S8192x1_S1x8192_1_0 (ValueIdx.ix2 0 b) (ValueIdx.ix2 b 0)
        (fun x => match x with | ⟨0, _⟩ => rfl | ⟨1, _⟩ => rfl))).trans (holder_apply b 0)
  show IntOp.cmpi .eq _ _ = _
  rw [h1, h2]
  show BitVec.ofBool (BitVec.ofNat 32 (a.val / 1024) == BitVec.ofNat 32 (b.val / 1024)) = _
  congr 1
  have ha := a.isLt
  have hb := b.isLt
  rw [Bool.eq_iff_iff, beq_iff_eq, decide_eq_true_iff]
  constructor
  · intro h
    have := congrArg BitVec.toNat h
    simp only [BitVec.toNat_ofNat] at this
    omega
  · intro h; rw [h]

/-- A choice by whether the rows are held by the same device. -/
theorem select_same (x y : FVec Ideal S8192x8192 .f32) (a b : Fin 8192) :
    select same x y (ValueIdx.ix2 a b) = if a.val / 1024 = b.val / 1024 then x (ValueIdx.ix2 a b) else y (ValueIdx.ix2 a b) := by
  show Scalar.select (same (ValueIdx.ix2 a b)) _ _ = _
  rw [same_apply]
  by_cases h : a.val / 1024 = b.val / 1024
  · rw [if_pos h, decide_eq_true h]; rfl
  · rw [if_neg h, decide_eq_false h]; rfl

theorem quantised_apply (x : FVec Ideal S8192x128 .f32) (i : S8192x128.Idx) :
    quantised x i = code (x i) * ((4 / 127 : ℝ) : EReal) := by
  show min (Ideal.ofBits .f32 0x42FE0000#32) (max (Ideal.ofBits .f32 0xC2FE0000#32) (Ideal.liftRound Ideal.roundHalfEven
    (Ideal.div (x i) (Ideal.div (Ideal.ofBits .f32 0x40800000#32) (Ideal.ofBits .f32 0x42FE0000#32)))))
      * Ideal.div (Ideal.ofBits .f32 0x40800000#32) (Ideal.ofBits .f32 0x42FE0000#32) = _
  rw [step_eq, word_127, word_neg_127]
  rfl

theorem products_apply (q k : FVec Ideal S8192x128 .f32) (a b : Fin 8192) :
    products q k (ValueIdx.ix2 a b) = ∑ e : Fin 128, q (ValueIdx.ix2 a e) * k (ValueIdx.ix2 b e) := by
  refine (StackMember.dotGeneral_plain_apply (m := 8192) (k := 128) (n := 8192) none q _ a b).trans ?_
  refine Finset.sum_congr rfl fun e _ => congrArg (q (ValueIdx.ix2 a e) * ·) ?_
  exact transpose_apply [1, 0] k transposes_S8192x128_S128x8192_1_0 (ValueIdx.ix2 e b) (ValueIdx.ix2 b e)
    (fun x => match x with | ⟨0, _⟩ => rfl | ⟨1, _⟩ => rfl)

theorem weighed_apply (w : FVec Ideal S8192x8192 .f32) (v : FVec Ideal S8192x128 .f32) (a : Fin 8192) (d : Fin 128) :
    weighed w v (ValueIdx.ix2 a d) = ∑ b : Fin 8192, w (ValueIdx.ix2 a b) * v (ValueIdx.ix2 b d) :=
  StackMember.dotGeneral_plain_apply (m := 8192) (k := 8192) (n := 128) none w v a d

theorem perRow_apply (x : FVec Ideal S8192 .f32) (a b : Fin 8192) : perRow x (ValueIdx.ix2 a b) = x (ValueIdx.ix1 a) :=
  (broadcastInDim_apply ![0, 1] bcast_S8192x1_S8192x8192_0_1 _ (ValueIdx.ix2 a b) (ValueIdx.ix2 a 0)
    (fun x => match x with | ⟨0, _⟩ => rfl | ⟨1, _⟩ => rfl)).trans
    (broadcastInDim_apply ![0] bcast_S8192_S8192x1_0 x (ValueIdx.ix2 a 0) (ValueIdx.ix1 a)
      (fun x => match x with | ⟨0, _⟩ => rfl))

theorem scores_apply (q k : FVec Ideal S8192x128 .f32) (a b : Fin 8192) :
    scores q k (ValueIdx.ix2 a b) = (∑ e : Fin 128, q (ValueIdx.ix2 a e)
      * (if a.val / 1024 = b.val / 1024 then k (ValueIdx.ix2 b e) else code (k (ValueIdx.ix2 b e)) * ((4 / 127 : ℝ) : EReal)))
      * (((1 : ℝ) / Real.sqrt 128 : ℝ) : EReal) := by
  have hs : Real.sqrt 128 ≠ 0 := (Real.sqrt_pos.mpr (by norm_num)).ne'
  show Ideal.div (select same (products q k) (products q (quantised k)) (ValueIdx.ix2 a b)) (Ideal.sqrt (Ideal.ofBits .f32 0x43000000#32)) = _
  rw [word_128, Ideal.sqrt_coe, if_neg (by norm_num), Ideal.div_coe hs, select_same, products_apply, products_apply]
  congr 1
  by_cases h : a.val / 1024 = b.val / 1024
  · simp only [if_pos h]
  · simp only [if_neg h, quantised_apply]

theorem fold_max_real {ι : Type*} (s : Finset ι) (f : ι → EReal) (hs : s.Nonempty) (hf : ∀ i ∈ s, ∃ r : ℝ, f i = (r : EReal)) :
    ∃ M : ℝ, s.fold max ⊥ f = (M : EReal) := by
  have h1 : s.fold max ⊥ f < ⊤ := (Finset.fold_max_lt _).mpr ⟨bot_lt_top, fun i hi => by obtain ⟨r, hr⟩ := hf i hi; rw [hr]; exact EReal.coe_lt_top r⟩
  have h2 : ⊥ < s.fold max ⊥ f := (Finset.lt_fold_max _).mpr (Or.inr (by
    obtain ⟨i, hi⟩ := hs
    obtain ⟨r, hr⟩ := hf i hi
    exact ⟨i, hi, by rw [hr]; exact EReal.bot_lt_coe r⟩))
  exact ⟨_, (EReal.coe_toReal h1.ne h2.ne').symm⟩

/-- A row of real scores has a real maximum. -/
theorem rowMax_real (s : FVec Ideal S8192x8192 .f32) (hs : ∀ i, ∃ r : ℝ, s i = (r : EReal)) (a : Fin 8192) :
    ∃ M : ℝ, rowMax s (ValueIdx.ix1 a) = (M : EReal) := by
  have h : rowMax s (ValueIdx.ix1 a) = (Finset.univ.filter fun i => Shape.ReducesTo.drop reducesTo_S8192x8192_S8192_d1 i = ValueIdx.ix1 a).fold max ⊥ s := by
    show Host.reduce max s (constant S_ .f32 0xFF800000#32 : FVec Ideal S_ .f32) reducesTo_S8192x8192_S8192_d1 h_S_ (ValueIdx.ix1 a) = _
    rw [Host.reduce_eq_fold]
    congr 1
  rw [h]
  refine fold_max_real _ _ ⟨ValueIdx.ix2 a 0, Finset.mem_filter.mpr ⟨Finset.mem_univ _, ?_⟩⟩ fun i _ => hs i
  exact funext fun b => match b with | ⟨0, _⟩ => rfl

/-- An entry of the result, the scores being real. -/
theorem result_apply (q k v : FVec Ideal S8192x128 .f32) (s : Fin 8192 → Fin 8192 → ℝ)
    (hs : ∀ a b, scores q k (ValueIdx.ix2 a b) = (s a b : EReal)) (a : Fin 8192) (d : Fin 128) :
    ∃ M : ℝ, result q k v (ValueIdx.ix2 a d)
      = (∑ b : Fin 8192, (if a.val / 1024 = b.val / 1024 then
          Ideal.div ((Real.exp (s a b - M) : ℝ) : EReal) ((∑ b, Real.exp (s a b - M) : ℝ) : EReal) else 0) * v (ValueIdx.ix2 b d))
        + ∑ b : Fin 8192, (if a.val / 1024 = b.val / 1024 then 0 else
          Ideal.div ((Real.exp (s a b - M) : ℝ) : EReal) ((∑ b, Real.exp (s a b - M) : ℝ) : EReal)) * (code (v (ValueIdx.ix2 b d)) * ((4 / 127 : ℝ) : EReal)) := by
  obtain ⟨M, hM⟩ := rowMax_real (scores q k) (fun i => by rw [ValueIdx.eq_ix2 i]; exact ⟨_, hs _ _⟩) a
  refine ⟨M, ?_⟩
  have he : ∀ b, exps (scores q k) (ValueIdx.ix2 a b) = ((Real.exp (s a b - M) : ℝ) : EReal) := by
    intro b
    show Ideal.exp (scores q k (ValueIdx.ix2 a b) - perRow (rowMax (scores q k)) (ValueIdx.ix2 a b)) = _
    rw [perRow_apply, hM, hs, ← EReal.coe_sub, Ideal.exp_coe]
  have hsum : Host.reduceAdd (exps (scores q k)) (constant S_ .f32 0x00000000#32) reducesTo_S8192x8192_S8192_d1 h_S_ (ValueIdx.ix1 a)
      = ((∑ b, Real.exp (s a b - M) : ℝ) : EReal) := by
    refine (Ideal.hostReduceAdd_r2_a1 reducesTo_S8192x8192_S8192_d1 (exps (scores q k)) (Ideal.ofBits .f32 0x00000000#32) (ValueIdx.ix1 a)).trans ?_
    rw [word_0, zero_add, ← sum_real]
    exact Finset.sum_congr rfl fun b _ => he b
  have hw : ∀ b, weights (exps (scores q k)) (ValueIdx.ix2 a b)
      = Ideal.div ((Real.exp (s a b - M) : ℝ) : EReal) ((∑ b, Real.exp (s a b - M) : ℝ) : EReal) := by
    intro b
    refine (ValueIdx.hostDivf_apply (exps (scores q k)) _ (ValueIdx.ix2 a b)).trans ?_
    rw [perRow_apply, hsum, he]
  have hz : ∀ b, zeros (ValueIdx.ix2 a b) = 0 := fun b => word_0
  rw [result, ValueIdx.addf_apply, weighed_apply, weighed_apply]
  refine congrArg₂ (· + ·) (Finset.sum_congr rfl fun b _ => ?_) (Finset.sum_congr rfl fun b _ => ?_)
  · rw [select_same, hw, hz]
  · rw [select_same, hw, hz, quantised_apply]

end Cert.Exchange.Ref
-- ==== Proof.Algebraic.lean ====
/-
The value: with finite queries and keys, each device's result is its block of the reference's. The precondition read back as
real numbers, the scores of the two programs compared, and the sums over eight blocks put together as one over all rows.
-/
module

public import Idealize.ShloMosaic.Lib.ReduceAll
public import proofs.«01_k».proof.Defs
public import proofs.«01_k».proof.Proof.Frames
public import proofs.«01_k».proof.Proof.Blocks
public import proofs.«01_k».proof.Proof.RefValue

@[expose] public section

noncomputable section

namespace Cert.Exchange

open Idealize.ShloMosaic
open Idealize.ShloMosaic.TcCoe
open Idealize.SL.Sem
open scoped BigOperators

/-! ## The precondition -/

theorem finite_facts : Cert.Pre_finite_scores_KernelIdeal.Facts := ⟨by decide, by decide, by decide⟩

theorem finite_facts' : Cert.Pre_finite_scores_ReferenceIdeal.Facts := ⟨by decide, by decide, by decide⟩

/-- A number whose absolute value is under the infinity is real. -/
theorem real_of_abs_lt {x : EReal} (h : Ideal.cmp .olt (max x (-x)) (Ideal.ofBits .f32 0x7F800000#32) = 1#1) : ∃ r : ℝ, x = (r : EReal) := by
  rw [word_top] at h
  have h' : max x (-x) < ⊤ := by
    by_contra hn
    have e : Ideal.cmp .olt (max x (-x)) ⊤ = 0#1 := by
      show BitVec.ofBool (decide (max x (-x) < ⊤)) = _
      rw [decide_eq_false hn]; rfl
    rw [e] at h; exact absurd h (by decide)
  have h1 := (max_lt_iff.mp h').1
  have h2 := (max_lt_iff.mp h').2
  induction x using EReal.rec with
  | bot => exact absurd h2 (by simp)
  | top => exact absurd h1 (by simp)
  | coe r => exact ⟨r, rfl⟩

theorem and_one {x y : BitVec 1} (h : IntOp.andi x y = 1#1) : x = 1#1 ∧ y = 1#1 := by
  revert h; revert x y; decide

/-- The precondition: every query and every key is a real number. -/
theorem finite_read (q k v : FVec Ideal ⟨2, ![1024, 128]⟩ .f32)
    (h : @Cert.Pre_finite_scores_KernelIdeal.fn finite_facts Ideal _ q k v = fun _ => 1#1) :
    (∀ i, ∃ r : ℝ, q i = (r : EReal)) ∧ ∀ i, ∃ r : ℝ, k i = (r : EReal) := by
  haveI := finite_facts
  haveI : Subsingleton Cert.Pre_finite_scores_KernelIdeal.S_.Idx := ⟨fun x y => funext fun a => a.elim0⟩
  obtain ⟨h1, h2⟩ := and_one (congrFun h ValueIdx.ix0)
  exact ⟨fun i => real_of_abs_lt (Host.reduce_andi_all _ _ _ _ _ h1 i), fun i => real_of_abs_lt (Host.reduce_andi_all _ _ _ _ _ h2 i)⟩

/-! ## Rows of the whole and rows of a block -/

/-- Row `r` of block `c`, as a row of the whole. -/
def row (c : Fin 8) (r : Fin 1024) : Fin 8192 := ⟨c.val * 1024 + r.val, by omega⟩

theorem row_div (c : Fin 8) (r : Fin 1024) : (row c r).val / 1024 = c.val := by
  show (c.val * 1024 + r.val) / 1024 = c.val; omega

theorem row_bijective : Function.Bijective fun p : Fin 8 × Fin 1024 => row p.1 p.2 := by
  constructor
  · rintro ⟨c, r⟩ ⟨c', r'⟩ h
    have h' : c.val * 1024 + r.val = c'.val * 1024 + r'.val := congrArg Fin.val h
    exact Prod.ext (Fin.ext (by show c.val = c'.val; omega)) (Fin.ext (by show r.val = r'.val; omega))
  · intro a
    exact ⟨(⟨a.val / 1024, by omega⟩, ⟨a.val % 1024, by omega⟩), Fin.ext (by show a.val / 1024 * 1024 + a.val % 1024 = a.val; omega)⟩

/-- The device whose rows device `c` reads as block `b`. -/
def dev (c : Fin 8) (b : Option (Fin 7)) : Fin 8 := b.elim c (src c)

theorem dev_bijective (c : Fin 8) : Function.Bijective (dev c) := by
  revert c; decide

/-- A sum over the eight blocks, the device's own first, is a sum over all the rows. -/
theorem sum_rows {M : Type*} [AddCommMonoid M] (c : Fin 8) (G : Fin 8192 → M) :
    ∑ b : Option (Fin 7), ∑ r : Fin 1024, G (row (dev c b) r) = ∑ a : Fin 8192, G a := by
  rw [(dev_bijective c).sum_comp fun b => ∑ r : Fin 1024, G (row b r), ← row_bijective.sum_comp G, Fintype.sum_prod_type]

theorem block_row (X : (⟨2, ![8192, 128]⟩ : Shape).Idx → EReal) (c : Fin 8) (r : Fin 1024) (e : Fin 128) :
    Layout.block ⟨2, ![1024, 128]⟩ ⟨2, ![8192, 128]⟩ 0 8 c X (by decide) (ValueIdx.ix2 r e) = X (ValueIdx.ix2 (row c r) e) :=
  congrArg X (funext fun a => match a with | ⟨0, _⟩ => rfl | ⟨1, _⟩ => rfl)

/-! ## The scores -/

/-- A code as a real number. -/
def codeR (x : EReal) : ℝ := (code x).toReal

theorem code_real (x : EReal) : code x = (codeR x : EReal) := by
  obtain ⟨n, _, _, h⟩ := code_int x
  rw [codeR, h, EReal.toReal_coe]

section Value

variable (Q K V : FVec Ideal ⟨2, ![8192, 128]⟩ .f32)
variable (Qr Kr : (⟨2, ![8192, 128]⟩ : Shape).Idx → ℝ) (hQ : ∀ i, Q i = (Qr i : EReal)) (hK : ∀ i, K i = (Kr i : EReal))

/-- A key as row `a` sees it: itself in its own block, elsewhere what the quantiser leaves of it. -/
def keyR (a b : Fin 8192) (e : Fin 128) : ℝ :=
  if a.val / 1024 = b.val / 1024 then Kr (ValueIdx.ix2 b e) else codeR (K (ValueIdx.ix2 b e)) * (4 / 127)

/-- The score of row `b` for row `a`. -/
def scoreR (a b : Fin 8192) : ℝ := (∑ e : Fin 128, Qr (ValueIdx.ix2 a e) * keyR K Kr a b e) * (1 / Real.sqrt 128)

include hQ hK in
theorem scores_real (a b : Fin 8192) : Ref.scores Q K (ValueIdx.ix2 a b) = (scoreR K Qr Kr a b : EReal) := by
  rw [Ref.scores_apply, scoreR, EReal.coe_mul, ← sum_real]
  congr 1
  refine Finset.sum_congr rfl fun e _ => ?_
  rw [EReal.coe_mul, hQ]
  congr 1
  unfold keyR
  by_cases h : a.val / 1024 = b.val / 1024
  · rw [if_pos h, if_pos h, hK]
  · rw [if_neg h, if_neg h, code_real, EReal.coe_mul]

end Value

section Device

open Cert.KernelIdeal Cert.KernelIdeal.Gen

variable (Q K V : FVec Ideal ⟨2, ![8192, 128]⟩ .f32)
variable (Qr Kr : (⟨2, ![8192, 128]⟩ : Shape).Idx → ℝ) (hQ : ∀ i, Q i = (Qr i : EReal)) (hK : ∀ i, K i = (Kr i : EReal))
variable (m : (ℓ : Loc nD τ sig) → Buf (Elt Ideal) ℓ) (ρ : Dev nD → PrngReg)

/-- The rows that a device reads as a block, as rows of the whole: its own in steps, the others as codes. -/
theorem rows_whole (x : Dev nD → FVec Ideal S1024x128 .f32) (X : FVec Ideal ⟨2, ![8192, 128]⟩ .f32)
    (hx : ∀ (c : Fin 8) (r : Fin 1024) (e : Fin 128), x c (ValueIdx.ix2 r e) = X (ValueIdx.ix2 (row c r) e))
    (c : Fin 8) (i : Fin 1024) (b : Option (Fin 7)) (r : Fin 1024) (e : Fin 128) :
    rows x c b (ValueIdx.ix2 r e)
      = if (row c i).val / 1024 = (row (dev c b) r).val / 1024 then (X (ValueIdx.ix2 (row (dev c b) r) e) : EReal) * ((31.75 : ℝ) : EReal)
        else code (X (ValueIdx.ix2 (row (dev c b) r) e)) := by
  rw [row_div, row_div]
  cases b with
  | none => exact (congrArg (· * ((31.75 : ℝ) : EReal)) (hx c r e)).trans (if_pos rfl).symm
  | some j =>
    rw [if_neg fun h => src_ne c j (Fin.ext h.symm)]
    exact congrArg code (hx (src c j) r e)

include hQ hK in
/-- A weight of the kernel is the exponential of the score. -/
theorem wt_whole (hq : ∀ (c : Fin 8) (r : Fin 1024) (e : Fin 128), qstg m ρ c (ValueIdx.ix2 r e) = Q (ValueIdx.ix2 (row c r) e))
    (hk : ∀ (c : Fin 8) (r : Fin 1024) (e : Fin 128), kstg m ρ c (ValueIdx.ix2 r e) = K (ValueIdx.ix2 (row c r) e))
    (c : Fin 8) (b : Option (Fin 7)) (i r : Fin 1024) :
    wt m ρ c b i r = ((Real.exp (scoreR K Qr Kr (row c i) (row (dev c b) r)) : ℝ) : EReal) := by
  rw [wt, ← Ideal.exp_coe]
  congr 1
  rw [scoreR, Finset.sum_mul, ← sum_real]
  refine Finset.sum_congr rfl fun e _ => ?_
  have h1 : qs m ρ c (ValueIdx.ix2 i e) = ((Qr (ValueIdx.ix2 (row c i) e) * ((Real.sqrt 128)⁻¹ * (4 / 127)) : ℝ) : EReal) := by
    rw [qs_apply, hq, hQ]; exact (EReal.coe_mul _ _).symm
  rw [h1, rows_whole (kstg m ρ) K hk c i b r e, keyR]
  by_cases h : (row c i).val / 1024 = (row (dev c b) r).val / 1024
  · rw [if_pos h, if_pos h, hK, ← EReal.coe_mul, ← EReal.coe_mul]
    congr 1; ring
  · rw [if_neg h, if_neg h, code_real, ← EReal.coe_mul]
    congr 1; ring

include hQ hK in
/-- An entry of a device's block is the reference's entry of that row. -/
theorem out_whole (hq : ∀ (c : Fin 8) (r : Fin 1024) (e : Fin 128), qstg m ρ c (ValueIdx.ix2 r e) = Q (ValueIdx.ix2 (row c r) e))
    (hk : ∀ (c : Fin 8) (r : Fin 1024) (e : Fin 128), kstg m ρ c (ValueIdx.ix2 r e) = K (ValueIdx.ix2 (row c r) e))
    (hv : ∀ (c : Fin 8) (r : Fin 1024) (e : Fin 128), vstg m ρ c (ValueIdx.ix2 r e) = V (ValueIdx.ix2 (row c r) e))
    (c : Fin 8) (i : Fin 1024) (d : Fin 128) :
    outAt m ρ c (ValueIdx.ix2 i d) = Ref.result Q K V (ValueIdx.ix2 (row c i) d) := by
  obtain ⟨M, hM⟩ := Ref.result_apply Q K V (scoreR K Qr Kr) (scores_real Q K Qr Kr hQ hK) (row c i) d
  rw [hM, out_apply]
  set vc : Fin 8192 → EReal := fun a => if (row c i).val / 1024 = a.val / 1024 then (V (ValueIdx.ix2 a d) : EReal) * ((31.75 : ℝ) : EReal)
    else code (V (ValueIdx.ix2 a d)) with hvc
  have hl : ∑ b : Option (Fin 7), ∑ r : Fin 1024, wt m ρ c b i r = ((∑ a : Fin 8192, Real.exp (scoreR K Qr Kr (row c i) a) : ℝ) : EReal) := by
    rw [← sum_real, ← sum_rows c fun a => ((Real.exp (scoreR K Qr Kr (row c i) a) : ℝ) : EReal)]
    exact Finset.sum_congr rfl fun b _ => Finset.sum_congr rfl fun r _ => wt_whole Q K Qr Kr hQ hK m ρ hq hk c b i r
  have ha : ∑ b : Option (Fin 7), ∑ r : Fin 1024, wt m ρ c b i r * rows (vstg m ρ) c b (ValueIdx.ix2 r d)
      = ∑ a : Fin 8192, ((Real.exp (scoreR K Qr Kr (row c i) a) : ℝ) : EReal) * vc a := by
    rw [← sum_rows c fun a => ((Real.exp (scoreR K Qr Kr (row c i) a) : ℝ) : EReal) * vc a]
    refine Finset.sum_congr rfl fun b _ => Finset.sum_congr rfl fun r _ => ?_
    rw [wt_whole Q K Qr Kr hQ hK m ρ hq hk c b i r, rows_whole (vstg m ρ) V hv c i b r d]
  rw [hl, ha]
  refine softmax_eq (fun a : Fin 8192 => (row c i).val / 1024 = a.val / 1024) (scoreR K Qr Kr (row c i)) M (by norm_num) vc
    (fun a => V (ValueIdx.ix2 a d)) (fun a => code (V (ValueIdx.ix2 a d)) * ((4 / 127 : ℝ) : EReal)) (fun a h => ?_) (fun a h => ?_)
  · rw [hvc]
    simp only [if_pos h]
    rw [mul_assoc, ← EReal.coe_mul, show (31.75 * (4 / 127) : ℝ) = 1 by norm_num, EReal.coe_one, mul_one]
  · rw [hvc]
    simp only [if_neg h]

end Device

/-! ## The claim -/

theorem algebraic : Cert.algebraic_KernelIdeal_ReferenceIdeal_pre_finite_scores_KernelIdeal (hPre_finite_scores_KernelIdeal := finite_facts) := by
  intro m g m' g' hpre hargs
  have hfin := fun c : Fin 8 => finite_read _ _ _ (hpre c)
  have hex : ∀ a : Fin 8192, ∃ (c : Fin 8) (r : Fin 1024), row c r = a := fun a => by
    obtain ⟨⟨c, r⟩, h⟩ := row_bijective.2 a; exact ⟨c, r, h⟩
  have hQ : ∀ i : (⟨2, ![8192, 128]⟩ : Shape).Idx, ∃ x : ℝ, (m' (((0 : Dev Cert.ReferenceIdeal.nD).tc : Thread Cert.ReferenceIdeal.nD Cert.ReferenceIdeal.τ).loc Cert.ReferenceIdeal.main_arg0) i : EReal) = (x : EReal) := by
    intro i
    obtain ⟨c, r, h⟩ := hex (i 0)
    obtain ⟨x, hx⟩ := (hfin c).1 (ValueIdx.ix2 r (i 1))
    refine ⟨x, ?_⟩
    rw [(hargs c).1] at hx
    rw [ValueIdx.eq_ix2 i, ← h]
    exact (block_row _ c r (i 1)).symm.trans hx
  have hK : ∀ i : (⟨2, ![8192, 128]⟩ : Shape).Idx, ∃ x : ℝ, (m' (((0 : Dev Cert.ReferenceIdeal.nD).tc : Thread Cert.ReferenceIdeal.nD Cert.ReferenceIdeal.τ).loc Cert.ReferenceIdeal.main_arg1) i : EReal) = (x : EReal) := by
    intro i
    obtain ⟨c, r, h⟩ := hex (i 0)
    obtain ⟨x, hx⟩ := (hfin c).2 (ValueIdx.ix2 r (i 1))
    refine ⟨x, ?_⟩
    rw [(hargs c).2.1] at hx
    rw [ValueIdx.eq_ix2 i, ← h]
    exact (block_row _ c r (i 1)).symm.trans hx
  choose Qr hQr using hQ
  choose Kr hKr using hK
  refine ⟨Cert.ReferenceIdeal.Value.res_main_v42 m' 0, ?_, ?_⟩
  · refine (θ_run Cert.KernelIdeal.defs _ _).mono (fun r h c => ⟨(h.1 c).1.trans ?_, (h.1 c).2⟩) (run_out (F := Ideal) m g)
    funext j
    rw [ValueIdx.eq_ix2 j, Ref.result_eq]
    refine Eq.trans ?_ (block_row _ c (j 0) (j 1)).symm
    refine out_whole _ _ _ Qr Kr hQr hKr m g (fun c r e => ?_) (fun c r e => ?_) (fun c r e => ?_) c (j 0) (j 1)
    · exact (congrFun ((qstg_eq m g c).trans (hargs c).1) _).trans (block_row _ c r e)
    · exact (congrFun ((kstg_eq m g c).trans (hargs c).2.1) _).trans (block_row _ c r e)
    · exact (congrFun ((vstg_eq m g c).trans (hargs c).2.2) _).trans (block_row _ c r e)
  · exact (θ_run Cert.ReferenceIdeal.defs _ _).mono (fun r h => ⟨(h 0).1, (h 0).2⟩) (Cert.ReferenceIdeal.Value.run (F := Ideal) m' g')

end Cert.Exchange
-- ==== Proof.lean ====
/-
The certificate: each program runs without fault, leaves its arguments and every semaphore as they were, the idealized
kernel is the kernel with its two rounded constants named, and with finite queries and keys it computes the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Exchange.finite_facts, Cert.Exchange.finite_facts',
  Cert.Exchange.frame_kernel, Cert.Exchange.frame_ideal, fun m g _ => Cert.Exchange.frame_ideal m g trivial,
  Cert.Exchange.frame_reference, fun m g _ => Cert.Exchange.frame_reference m g trivial,
  Cert.Exchange.named_constants, Cert.Exchange.algebraic⟩

end Cert.Proof

end
